-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_row_maxima_finite_KernelIdeal [hPre_row_maxima_finite_KernelIdeal : Cert.Pre_row_maxima_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_row_maxima_finite_KernelIdeal.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_row_maxima_finite_ReferenceIdeal [hPre_row_maxima_finite_ReferenceIdeal : Cert.Pre_row_maxima_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_row_maxima_finite_ReferenceIdeal.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_row_maxima_finite_KernelIdeal [hKernelIdeal : Cert.KernelIdeal.Facts] [hPre_row_maxima_finite_KernelIdeal : Cert.Pre_row_maxima_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_row_maxima_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_row_maxima_finite_ReferenceIdeal [hReferenceIdeal : Cert.ReferenceIdeal.Facts] [hPre_row_maxima_finite_ReferenceIdeal : Cert.Pre_row_maxima_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_row_maxima_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_row_maxima_finite_KernelIdeal [hKernelIdeal : Cert.KernelIdeal.Facts] [hReferenceIdeal : Cert.ReferenceIdeal.Facts] [hPre_row_maxima_finite_KernelIdeal : Cert.Pre_row_maxima_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_row_maxima_finite_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![2048, 4096]⟩ 1 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 1024]⟩ ⟨2, ![2048, 4096]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_row_maxima_finite_KernelIdeal : Cert.Pre_row_maxima_finite_KernelIdeal.Facts) (hPre_row_maxima_finite_ReferenceIdeal : Cert.Pre_row_maxima_finite_ReferenceIdeal.Facts),
    quiescent_Kernel (hKernel := hKernel)
    ∧ quiescent_KernelIdeal (hKernelIdeal := hKernelIdeal)
    ∧ quiescent_KernelIdeal_pre_row_maxima_finite_KernelIdeal (hKernelIdeal := hKernelIdeal) (hPre_row_maxima_finite_KernelIdeal := hPre_row_maxima_finite_KernelIdeal)
    ∧ quiescent_ReferenceIdeal (hReferenceIdeal := hReferenceIdeal)
    ∧ quiescent_ReferenceIdeal_pre_row_maxima_finite_ReferenceIdeal (hReferenceIdeal := hReferenceIdeal) (hPre_row_maxima_finite_ReferenceIdeal := hPre_row_maxima_finite_ReferenceIdeal)
    ∧ preserves_Kernel_KernelIdeal
    ∧ algebraic_KernelIdeal_ReferenceIdeal_pre_row_maxima_finite_KernelIdeal (hKernelIdeal := hKernelIdeal) (hReferenceIdeal := hReferenceIdeal) (hPre_row_maxima_finite_KernelIdeal := hPre_row_maxima_finite_KernelIdeal)
-- ==== Pre_row_maxima_finite_KernelIdeal.lean ====
abbrev S2048x1024 : Shape := ⟨2, ![2048, 1024]⟩
abbrev S_ : Shape := ⟨0, ![]⟩
abbrev S2048 : Shape := ⟨1, ![2048]⟩

class Facts : Prop where
  reducesTo_S2048x1024_S2048_d1 : S2048x1024.ReducesTo [1] S2048
  h_S_ : 0 < S_.numel
  bcast_S_S2048 : S_.BroadcastsInDim S2048 (![] : Fin 0 → Fin S2048.rank)

variable [Facts]

def fn {F : FTy → Type} [FloatOps F] (main_arg0 : FVec F S2048x1024 .f32) : IVec S2048 1 :=
  let main_cst : FVec F S_ .f32 := constant S_ .f32 0xFF800000#32
  let main_v0 : FVec F S2048 .f32 := (fun x v => Host.reduce FloatOps.maximumf x v reducesTo_S2048x1024_S2048_d1 h_S_) main_arg0 main_cst
  let main_v1 : FVec F S2048 .f32 := Host.absf main_v0
  let main_cst_0 : FVec F S_ .f32 := constant S_ .f32 0x7F800000#32
  let main_v2 : FVec F S2048 .f32 := broadcastInDim S2048 ![] bcast_S_S2048 main_cst_0
  let main_v3 : IVec S2048 1 := cmpf .olt main_v1 main_v2
  main_v3
-- ==== Pre_row_maxima_finite_ReferenceIdeal.lean ====
abbrev S2048x4096 : Shape := ⟨2, ![2048, 4096]⟩
abbrev S_ : Shape := ⟨0, ![]⟩
abbrev S2048 : Shape := ⟨1, ![2048]⟩

class Facts : Prop where
  reducesTo_S2048x4096_S2048_d1 : S2048x4096.ReducesTo [1] S2048
  h_S_ : 0 < S_.numel
  bcast_S_S2048 : S_.BroadcastsInDim S2048 (![] : Fin 0 → Fin S2048.rank)

variable [Facts]

def fn {F : FTy → Type} [FloatOps F] (main_arg0 : FVec F S2048x4096 .f32) : IVec S2048 1 :=
  let main_cst : FVec F S_ .f32 := constant S_ .f32 0xFF800000#32
  let main_v0 : FVec F S2048 .f32 := (fun x v => Host.reduce FloatOps.maximumf x v reducesTo_S2048x4096_S2048_d1 h_S_) main_arg0 main_cst
  let main_v1 : FVec F S2048 .f32 := Host.absf main_v0
  let main_cst_0 : FVec F S_ .f32 := constant S_ .f32 0x7F800000#32
  let main_v2 : FVec F S2048 .f32 := broadcastInDim S2048 ![] bcast_S_S2048 main_cst_0
  let main_v3 : IVec S2048 1 := cmpf .olt main_v1 main_v2
  main_v3
-- ==== Kernel.lean ====
abbrev S2048x1024 : Shape := ⟨2, ![2048, 1024]⟩
abbrev S2x4x16x128 : Shape := ⟨4, ![2, 4, 16, 128]⟩
abbrev S6 : Shape := ⟨1, ![6]⟩
abbrev S_ : Shape := ⟨0, ![]⟩
abbrev S1024x1024 : Shape := ⟨2, ![1024, 1024]⟩
abbrev S1024 : Shape := ⟨1, ![1024]⟩
abbrev S1024x1 : Shape := ⟨2, ![1024, 1]⟩
abbrev S8x128 : Shape := ⟨2, ![8, 128]⟩
abbrev S1x1x8x128 : Shape := ⟨4, ![1, 1, 8, 128]⟩
abbrev S1 : Shape := ⟨1, ![1]⟩
abbrev S1x1x16x128 : Shape := ⟨4, ![1, 1, 16, 128]⟩
abbrev S16x128 : Shape := ⟨2, ![16, 128]⟩
abbrev S8x128x1024 : Shape := ⟨3, ![8, 128, 1024]⟩
abbrev S8x128x1 : Shape := ⟨3, ![8, 128, 1]⟩

abbrev nBuf : Space → Nat
  | .hbm => 2
  | .vmem => 4
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .local _ .vmem, ⟨0, _⟩ => ⟨S2048x1024, .f32⟩
  | .local _ .vmem, ⟨1, _⟩ => ⟨S2048x1024, .bf16⟩
  | .local _ .vmem, ⟨2, _⟩ => ⟨S2048x1024, .bf16⟩
  | .local _ .vmem, ⟨3, _⟩ => ⟨S2x4x16x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_53 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_39 : BitVec 32 := 1#32
  let v64 : BitVec 32 := Scalar.addi v2 c1_i32_39
  let c4_i32_40 : BitVec 32 := 4#32
  let c0_i32_41 : BitVec 32 := 0#32
  let v65 : BitVec 1 := Scalar.cmpi .eq c4_i32_40 c0_i32_41
  let c1_i32_42 : BitVec 32 := 1#32
  let v66 : BitVec 32 := Scalar.select v65 c1_i32_42 c4_i32_40
  let v67 : BitVec 32 := Scalar.remsi v64 v66
  let c0_i32_44 : BitVec 32 := 0#32
  let v69 : BitVec 1 := Scalar.cmpi .slt v67 c0_i32_44
  let c0_i32_45 : BitVec 32 := 0#32
  let v70 : BitVec 1 := Scalar.cmpi .slt v66 c0_i32_45
  let v71 : BitVec 1 := Scalar.xori v69 v70
  let c0_i32_43 : BitVec 32 := 0#32
  let v68 : BitVec 1 := Scalar.cmpi .ne v67 c0_i32_43
  let v72 : BitVec 1 := Scalar.andi v71 v68
  let v73 : BitVec 32 := Scalar.addi v67 v66
  let v74 : BitVec 32 := Scalar.select v72 v73 v67
  let c1_i32_52 : BitVec 32 := 1#32
  let v75 : BitVec 32 := Scalar.muli v74 c1_i32_52
  let v76 : BitVec 32 := Scalar.addi c0_i32_53 v75
  v76.toNat
def k0_dev5 (d0 : Dev nD) : Nat :=
  let c0_i32_72 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_58 : BitVec 32 := 2#32
  let v85 : BitVec 32 := Scalar.addi v2 c2_i32_58
  let c4_i32_59 : BitVec 32 := 4#32
  let c0_i32_60 : BitVec 32 := 0#32
  let v86 : BitVec 1 := Scalar.cmpi .eq c4_i32_59 c0_i32_60
  let c1_i32_61 : BitVec 32 := 1#32
  let v87 : BitVec 32 := Scalar.select v86 c1_i32_61 c4_i32_59
  let v88 : BitVec 32 := Scalar.remsi v85 v87
  let c0_i32_63 : BitVec 32 := 0#32
  let v90 : BitVec 1 := Scalar.cmpi .slt v88 c0_i32_63
  let c0_i32_64 : BitVec 32 := 0#32
  let v91 : BitVec 1 := Scalar.cmpi .slt v87 c0_i32_64
  let v92 : BitVec 1 := Scalar.xori v90 v91
  let c0_i32_62 : BitVec 32 := 0#32
  let v89 : BitVec 1 := Scalar.cmpi .ne v88 c0_i32_62
  let v93 : BitVec 1 := Scalar.andi v92 v89
  let v94 : BitVec 32 := Scalar.addi v88 v87
  let v95 : BitVec 32 := Scalar.select v93 v94 v88
  let c1_i32_71 : BitVec 32 := 1#32
  let v96 : BitVec 32 := Scalar.muli v95 c1_i32_71
  let v97 : BitVec 32 := Scalar.addi c0_i32_72 v96
  v97.toNat
def k0_dev6 (d0 : Dev nD) : Nat :=
  let c0_i32_91 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_77 : BitVec 32 := 3#32
  let v106 : BitVec 32 := Scalar.addi v2 c3_i32_77
  let c4_i32_78 : BitVec 32 := 4#32
  let c0_i32_79 : BitVec 32 := 0#32
  let v107 : BitVec 1 := Scalar.cmpi .eq c4_i32_78 c0_i32_79
  let c1_i32_80 : BitVec 32 := 1#32
  let v108 : BitVec 32 := Scalar.select v107 c1_i32_80 c4_i32_78
  let v109 : BitVec 32 := Scalar.remsi v106 v108
  let c0_i32_82 : BitVec 32 := 0#32
  let v111 : BitVec 1 := Scalar.cmpi .slt v109 c0_i32_82
  let c0_i32_83 : BitVec 32 := 0#32
  let v112 : BitVec 1 := Scalar.cmpi .slt v108 c0_i32_83
  let v113 : BitVec 1 := Scalar.xori v111 v112
  let c0_i32_81 : BitVec 32 := 0#32
  let v110 : BitVec 1 := Scalar.cmpi .ne v109 c0_i32_81
  let v114 : BitVec 1 := Scalar.andi v113 v110
  let v115 : BitVec 32 := Scalar.addi v109 v108
  let v116 : BitVec 32 := Scalar.select v114 v115 v109
  let c1_i32_90 : BitVec 32 := 1#32
  let v117 : BitVec 32 := Scalar.muli v116 c1_i32_90
  let v118 : BitVec 32 := Scalar.addi c0_i32_91 v117
  v118.toNat
def k0_dev7 (d0 : Dev nD) : Nat :=
  let c0_i32_122 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_108 : BitVec 32 := 1#32
  let v148 : BitVec 32 := Scalar.addi v2 c1_i32_108
  let c4_i32_109 : BitVec 32 := 4#32
  let c0_i32_110 : BitVec 32 := 0#32
  let v149 : BitVec 1 := Scalar.cmpi .eq c4_i32_109 c0_i32_110
  let c1_i32_111 : BitVec 32 := 1#32
  let v150 : BitVec 32 := Scalar.select v149 c1_i32_111 c4_i32_109
  let v151 : BitVec 32 := Scalar.remsi v148 v150
  let c0_i32_113 : BitVec 32 := 0#32
  let v153 : BitVec 1 := Scalar.cmpi .slt v151 c0_i32_113
  let c0_i32_114 : BitVec 32 := 0#32
  let v154 : BitVec 1 := Scalar.cmpi .slt v150 c0_i32_114
  let v155 : BitVec 1 := Scalar.xori v153 v154
  let c0_i32_112 : BitVec 32 := 0#32
  let v152 : BitVec 1 := Scalar.cmpi .ne v151 c0_i32_112
  let v156 : BitVec 1 := Scalar.andi v155 v152
  let v157 : BitVec 32 := Scalar.addi v151 v150
  let v158 : BitVec 32 := Scalar.select v156 v157 v151
  let c1_i32_121 : BitVec 32 := 1#32
  let v159 : BitVec 32 := Scalar.muli v158 c1_i32_121
  let v160 : BitVec 32 := Scalar.addi c0_i32_122 v159
  v160.toNat
def k0_dev8 (d0 : Dev nD) : Nat :=
  let c0_i32_141 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_127 : BitVec 32 := 2#32
  let v169 : BitVec 32 := Scalar.addi v2 c2_i32_127
  let c4_i32_128 : BitVec 32 := 4#32
  let c0_i32_129 : BitVec 32 := 0#32
  let v170 : BitVec 1 := Scalar.cmpi .eq c4_i32_128 c0_i32_129
  let c1_i32_130 : BitVec 32 := 1#32
  let v171 : BitVec 32 := Scalar.select v170 c1_i32_130 c4_i32_128
  let v172 : BitVec 32 := Scalar.remsi v169 v171
  let c0_i32_132 : BitVec 32 := 0#32
  let v174 : BitVec 1 := Scalar.cmpi .slt v172 c0_i32_132
  let c0_i32_133 : BitVec 32 := 0#32
  let v175 : BitVec 1 := Scalar.cmpi .slt v171 c0_i32_133
  let v176 : BitVec 1 := Scalar.xori v174 v175
  let c0_i32_131 : BitVec 32 := 0#32
  let v173 : BitVec 1 := Scalar.cmpi .ne v172 c0_i32_131
  let v177 : BitVec 1 := Scalar.andi v176 v173
  let v178 : BitVec 32 := Scalar.addi v172 v171
  let v179 : BitVec 32 := Scalar.select v177 v178 v172
  let c1_i32_140 : BitVec 32 := 1#32
  let v180 : BitVec 32 := Scalar.muli v179 c1_i32_140
  let v181 : BitVec 32 := Scalar.addi c0_i32_141 v180
  v181.toNat
def k0_dev9 (d0 : Dev nD) : Nat :=
  let c0_i32_159 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_146 : BitVec 32 := 3#32
  let v190 : BitVec 32 := Scalar.addi v2 c3_i32_146
  let c4_i32_147 : BitVec 32 := 4#32
  let c0_i32_148 : BitVec 32 := 0#32
  let v191 : BitVec 1 := Scalar.cmpi .eq c4_i32_147 c0_i32_148
  let c1_i32_149 : BitVec 32 := 1#32
  let v192 : BitVec 32 := Scalar.select v191 c1_i32_149 c4_i32_147
  let v193 : BitVec 32 := Scalar.remsi v190 v192
  let c0_i32_151 : BitVec 32 := 0#32
  let v195 : BitVec 1 := Scalar.cmpi .slt v193 c0_i32_151
  let c0_i32_152 : BitVec 32 := 0#32
  let v196 : BitVec 1 := Scalar.cmpi .slt v192 c0_i32_152
  let v197 : BitVec 1 := Scalar.xori v195 v196
  let c0_i32_150 : BitVec 32 := 0#32
  let v194 : BitVec 1 := Scalar.cmpi .ne v193 c0_i32_150
  let v198 : BitVec 1 := Scalar.andi v197 v194
  let v199 : BitVec 32 := Scalar.addi v193 v192
  let v200 : BitVec 32 := Scalar.select v198 v199 v193
  let c1_i32_158 : BitVec 32 := 1#32
  let v201 : BitVec 32 := Scalar.muli v200 c1_i32_158
  let v202 : BitVec 32 := Scalar.addi c0_i32_159 v201
  v202.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x4096 : Shape := ⟨2, ![2048, 4096]⟩
abbrev S_ : Shape := ⟨0, ![]⟩
abbrev S2048 : Shape := ⟨1, ![2048]⟩
abbrev S2048x1 : Shape := ⟨2, ![2048, 1]⟩

abbrev nBuf : Space → Nat
  | .hbm => 13
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S_, .f32⟩
  | .hbm, ⟨2, _⟩ => ⟨S2048, .f32⟩
  | .hbm, ⟨3, _⟩ => ⟨S2048x1, .f32⟩
  | .hbm, ⟨4, _⟩ => ⟨S2048x4096, .f32⟩
  | .hbm, ⟨5, _⟩ => ⟨S2048x4096, .f32⟩
  | .hbm, ⟨6, _⟩ => ⟨S2048x4096, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S2048x4096, .f32⟩
  | .hbm, ⟨11, _⟩ => ⟨S2048x4096, .f32⟩
  | .hbm, ⟨12, _⟩ => ⟨S2048x4096, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Proof.Common.lean ====
/-
# The exchange of row statistics: cells, contents, schedule

Four devices hold one column block each of a 2048-row array, worked on in two halves of 1024 rows. A device keeps,
per half `b`, four slots of 16x128 numbers: slot `(b, 0)` its own row maxima (rows 0-7) and row sums (rows 8-15),
slot `(b, k)` those of the device `k` places before it. The protocol of device `c`:

* Entry. `c` raises the barrier cell of each of the three others by one and waits for three on its own. The raise
  towards a device hands over the two slots `(0, k)` and `(1, k)` of `c` which that device will write.
* Transfers. For each half `b` and each distance `o = 1, 2, 3`, `c` copies its slot `(b, 0)` onto slot `(b, o)` of the
  device `o` places after it. The send cell `(b, o)` of `c` hands back the lent share of slot `(b, 0)`; the receive
  cell `(b, o)` of the target hands over the landed slot, holding the statistics of `c`.
* Exit. `c` has waited for its six send and its six receive cells, and all thirteen counters read zero.

Below: the ring, the cells, what every slot holds, the schedule of payments, and what each device owes.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Pointwise

@[expose] public section

noncomputable section

namespace Cert.Softmax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Ghost state: the staging pipeline's rounds and the exchange's, whose duties are named by distance -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The ring -/

set_option backward.proofsInPublic true in
/-- The device `o + 1` places after `c`. -/
def fwd (o : Fin 3) (c : Dev nD) : Dev nD := ⟨(c.val + (o.val + 1)) % 4, Nat.mod_lt _ (by decide)⟩
set_option backward.proofsInPublic true in
/-- The device `o + 1` places before `c`. -/
def bwd (o : Fin 3) (c : Dev nD) : Dev nD := ⟨(c.val + (3 - o.val)) % 4, Nat.mod_lt _ (by decide)⟩
set_option backward.proofsInPublic true in
/-- The device whose statistics slot `k` of device `c` holds: `k` places before `c`. -/
def home (k : Fin 4) (c : Dev nD) : Dev nD := ⟨(c.val + (4 - k.val)) % 4, Nat.mod_lt _ (by decide)⟩

theorem bwd_fwd (o : Fin 3) (c : Dev nD) : bwd o (fwd o c) = c := by revert o c; decide
theorem fwd_bwd (o : Fin 3) (c : Dev nD) : fwd o (bwd o c) = c := by revert o c; decide
/-- Going `o + 1` places on and then the complement `3 - o` places comes back. -/
theorem fwd_rev_fwd (o : Fin 3) (c : Dev nD) : fwd o.rev (fwd o c) = c := by revert o c; decide
theorem home_zero (c : Dev nD) : home 0 c = c := by revert c; decide
theorem home_succ_fwd (o : Fin 3) (c : Dev nD) : home o.succ (fwd o c) = c := by revert o c; decide

/-- Shifting by `o + 1` places, as a bijection of the devices. -/
def shift (o : Fin 3) : Dev nD ≃ Dev nD := ⟨fwd o, bwd o, bwd_fwd o, fwd_bwd o⟩

/-! ## The cells -/

/-- A transfer of a device: the half it carries and its distance less one. -/
abbrev Tr : Type := Fin 2 × Fin 3

abbrev barS : Sem sig := (SemArray.scalar (sig.barrier 0 rfl) : Sems sig S_).sem
set_option backward.proofsInPublic true in
def sendS (t : Tr) : DmaSem sig := (⟨2 + (3 * t.1.val + t.2.val), by obtain ⟨b, o⟩ := t; simp only; omega⟩ : Fin 14)
set_option backward.proofsInPublic true in
def recvS (t : Tr) : DmaSem sig := (⟨8 + (3 * t.1.val + t.2.val), by obtain ⟨b, o⟩ := t; simp only; omega⟩ : Fin 14)

theorem sendS_val (b : Fin 2) (o : Fin 3) : (sendS (b, o)).val = 2 + (3 * b.val + o.val) := rfl
theorem recvS_val (b : Fin 2) (o : Fin 3) : (recvS (b, o)).val = 8 + (3 * b.val + o.val) := rfl

abbrev barCell (c : Dev nD) : GSem nD τ sig := ((c : Thread nD τ), .reg barS)
abbrev sendCell (c : Dev nD) (t : Tr) : GSem nD τ sig := ((c : Thread nD τ), .dma (sendS t))
abbrev recvCell (c : Dev nD) (t : Tr) : GSem nD τ sig := ((c : Thread nD τ), .dma (recvS t))

/-- The two halves and the three distances by name. -/
abbrev b0 : Fin 2 := ⟨0, by decide⟩
abbrev b1 : Fin 2 := ⟨1, by decide⟩
abbrev o0 : Fin 3 := ⟨0, by decide⟩
abbrev o1 : Fin 3 := ⟨1, by decide⟩
abbrev o2 : Fin 3 := ⟨2, by decide⟩
/-- The four slots of a half by name. -/
abbrev s0 : Fin 4 := ⟨0, by decide⟩
abbrev s1 : Fin 4 := ⟨1, by decide⟩
abbrev s2 : Fin 4 := ⟨2, by decide⟩
abbrev s3 : Fin 4 := ⟨3, by decide⟩

/-- The kernel's own scoped semaphores: the six send cells and the six receive cells. -/
abbrev osem : Tr ⊕ Tr → SemLoc sig := Sum.elim (fun t => .dma (sendS t)) (fun t => .dma (recvS t))
/-- All thirteen cells of a device. -/
abbrev csem : Unit ⊕ (Tr ⊕ Tr) → SemLoc sig := Sum.elim (fun _ => .reg barS) osem
abbrev kcell (ck : Dev nD × (Unit ⊕ (Tr ⊕ Tr))) : GSem nD τ sig := ((ck.1 : Thread nD τ), csem ck.2)

/-! ## The slots -/

abbrev xM : Memref sig .tc .vmem S2048x1024 .f32 := Memref.whole cc0_stg0_0
abbrev oM : Memref sig .tc .vmem S2048x1024 .bf16 := Memref.whole cc0_stg1_0
abbrev eM : Memref sig .tc .vmem S2048x1024 .bf16 := Memref.whole cc0_scratch0
abbrev cM : Memref sig .tc .vmem S2x4x16x128 .f32 := Memref.whole cc0_scratch1

/-- Slot `(b, k)` of the statistics buffer as the transfers name it. -/
abbrev slotM (b k : ℕ) (h : ∀ a, (![b, k, 0, 0] : Fin 4 → ℕ) a + S1x1x16x128.size a ≤ S2x4x16x128.size a) :
    Memref sig .tc .vmem S16x128 .f32 :=
  (cM.slice (Rect.unit (s := S2x4x16x128) ![b, k, 0, 0] S1x1x16x128.size h) (fun _ => rfl)).squeeze S16x128 squeezes_S1x1x16x128_S16x128

theorem slot_inb (b : Fin 2) (k : Fin 4) : ∀ a, (![b.val, k.val, 0, 0] : Fin 4 → ℕ) a + S1x1x16x128.size a ≤ S2x4x16x128.size a := by
  revert b k; decide

/-- The elements of slot `(b, k)`. -/
def slotSet (b k : ℕ) : Finset S2x4x16x128.Idx := Finset.univ.filter fun i => (i 0).val = b ∧ (i 1).val = k

theorem mem_slotSet {b k : ℕ} {i : S2x4x16x128.Idx} : i ∈ slotSet b k ↔ (i 0).val = b ∧ (i 1).val = k := by
  unfold slotSet; rw [Finset.mem_filter]; exact and_iff_right (Finset.mem_univ _)

/-- The credit one slot's transfer pays. -/
abbrev N : ℕ := (slotM 0 0 (slot_inb 0 0)).view.dmaCredit
theorem N_pos : 0 < N := View.dmaCredit_pos _ (by decide)

/-! ## Contents -/

/-- Device `c`'s staged input block. -/
def xstg (c : Dev nD) : (cc0_stg0_0 : Ref sig .tc).ty.Contents (Elt F) :=
  (win0_0.blk (0 : Fin 1)).view.read (Elt F) (m ((c : Thread nD τ).loc main_arg0))

theorem half_inb (b : Fin 2) : ∀ a, (![1024 * b.val, 0] : Fin 2 → ℕ) a + S1024x1024.size a ≤ S2048x1024.size a := by
  revert b; decide

/-- The rows of half `b` of a 2048x1024 array. -/
abbrev halfR (b : Fin 2) : Rect S2048x1024 := Rect.unit (s := S2048x1024) ![1024 * b.val, 0] S1024x1024.size (half_inb b)

/-- Half `b` of device `c`'s input block. -/
def xhalf (c : Dev nD) (b : Fin 2) : Vec F S1024x1024 .f32 := xM.view.readAt (Elt F) (halfR b).toLoadRect (xstg m c)

set_option backward.proofsInPublic true in
/-- The statistics of half `b` of device `c` at row `r`, lane `l` of a slot: the row maxima over the row sums. -/
def stat (c : Dev nD) (b : Fin 2) (r : Fin 16) (l : Fin 128) : F .f32 :=
  if h : r.val < 8 then k0_pay6 (xhalf m c b) (ix4 (0 : Fin 1) (0 : Fin 1) (⟨r.val, h⟩ : Fin 8) l)
  else k0_pay7 (xhalf m c b) (ix4 (0 : Fin 1) (0 : Fin 1) (⟨r.val - 8, by omega⟩ : Fin 8) l)

/-- The statistics buffer of device `c` once every slot is filled. -/
def commF (c : Dev nD) : Buf (Elt F) ((c : Thread nD τ).loc cc0_scratch1) :=
  fun i : S2x4x16x128.Idx => stat m (home (i 1) c) (i 0) (i 2) (i 3)

/-! ## Ownership of a slot -/

/-- Share `q` of slot `(b, k)` of device `c` at the contents `f`. -/
def slotPts (c : Dev nD) (b k : ℕ) (q : PosShare TreeShare) (f : Buf (Elt F) ((c : Thread nD τ).loc cc0_scratch1)) : sProp 𝕄 :=
  ((c : Thread nD τ).loc cc0_scratch1) ↦[slotSet b k]{q} f

omit [FloatOps F] in
instance slotPts_storable (c : Dev nD) (b k : ℕ) (q : PosShare TreeShare) (f) :
    BI.Storable (upEmb : UEmb _ 𝕄) (slotPts (F := F) c b k q f) := by unfold slotPts; infer_instance

/-- The three shares of its own slot a device lends to its three transfers of a half. -/
def lent : ℕ → PosShare TreeShare
  | 0 => fullShare.left
  | 1 => fullShare.right.left
  | _ => fullShare.right.right

/-! ## The schedule -/

/-- What a barrier cell of `c` hands over under the name `o`: the slots of the device `o + 1` places on which `c` writes. -/
def barPay (c : Dev nD) (o : Fin 3) : sProp 𝕄 :=
  iprop(∃ f, slotPts (fwd o c) 0 (o.val + 1) fullShare f ∗ slotPts (fwd o c) 1 (o.val + 1) fullShare f)
/-- What a receive cell hands over: its slot, filled. -/
def recvPay (c : Dev nD) (b o : ℕ) : sProp 𝕄 := slotPts c b (o + 1) fullShare (commF m c)
/-- What a send cell hands back: the lent share of the device's own slot. -/
def sendPay (c : Dev nD) (b o : ℕ) : sProp 𝕄 := slotPts c b 0 (lent o) (commF m c)

/-- One round: three unit duties on a barrier cell, one duty of a slot's credit on a send or a receive cell. -/
def sched : Rounds.Schedule (GSem nD τ sig) (Fin 3) 𝕄 where
  duties g r := if r = 0 ∧ g.1.2 = .tc then
      (match g.2 with
        | .reg s => if s = barS then Finset.univ else ∅
        | .dma q => if 2 ≤ q.val then {0} else ∅)
    else ∅
  unitless _ := False
  amount g _ _ := match g.2 with
    | .reg _ => 1
    | .dma _ => N
  payload g _ d := match g.2 with
    | .reg _ => barPay g.1.1 d
    | .dma q => if 8 ≤ q.val then recvPay m g.1.1 ((q.val - 8) / 3) ((q.val - 8) % 3)
        else sendPay m g.1.1 ((q.val - 2) / 3) ((q.val - 2) % 3)
  amount_pos g _ _ _ := by
    cases g.2
    · exact Nat.one_pos
    · exact N_pos

instance sched_payload_storable (g : GSem nD τ sig) (r : ℕ) (d : Fin 3) :
    BI.Storable (upEmb : UEmb _ 𝕄) ((sched (F := F) m).payload g r d) := by
  obtain ⟨th, sl⟩ := g
  cases sl with
  | reg s => show BI.Storable upEmb (barPay th.1 d); unfold barPay; infer_instance
  | dma q =>
    show BI.Storable upEmb (if 8 ≤ q.val then recvPay m th.1 ((q.val - 8) / 3) ((q.val - 8) % 3)
        else sendPay m th.1 ((q.val - 2) / 3) ((q.val - 2) % 3))
    unfold recvPay sendPay
    split <;> infer_instance

section Sched
variable (c : Dev nD) (t : Tr)

theorem duties_bar : (sched (F := F) m).duties (barCell c) 0 = Finset.univ := by
  dsimp only [sched]; rw [if_pos ⟨rfl, rfl⟩]; exact if_pos rfl
theorem duties_send : (sched (F := F) m).duties (sendCell c t) 0 = {0} := by
  dsimp only [sched]; rw [if_pos ⟨rfl, rfl⟩]; exact if_pos (by dsimp only [sendS]; omega)
theorem duties_recv : (sched (F := F) m).duties (recvCell c t) 0 = {0} := by
  dsimp only [sched]; rw [if_pos ⟨rfl, rfl⟩]; exact if_pos (by dsimp only [recvS]; omega)
theorem duties_later (g : GSem nD τ sig) : ∀ r, 1 ≤ r → (sched (F := F) m).duties g r = ∅ :=
  fun r hr => by dsimp only [sched]; exact if_neg fun h => by omega

theorem amount_bar (d : Fin 3) : (sched (F := F) m).amount (barCell c) 0 d = 1 := rfl
theorem amount_send (d : Fin 3) : (sched (F := F) m).amount (sendCell c t) 0 d = N := rfl
theorem amount_recv (d : Fin 3) : (sched (F := F) m).amount (recvCell c t) 0 d = N := rfl

theorem expect_bar : (sched (F := F) m).expect (barCell c) 0 = 3 := by
  unfold Schedule.expect Schedule.amountOf
  rw [duties_bar, Finset.sum_congr rfl fun d _ => amount_bar m c d]; rfl
theorem expect_send : (sched (F := F) m).expect (sendCell c t) 0 = N := by
  unfold Schedule.expect Schedule.amountOf; rw [duties_send, Finset.sum_singleton, amount_send]
theorem expect_recv : (sched (F := F) m).expect (recvCell c t) 0 = N := by
  unfold Schedule.expect Schedule.amountOf; rw [duties_recv, Finset.sum_singleton, amount_recv]

theorem payload_bar (d : Fin 3) : (sched (F := F) m).payload (barCell c) 0 d = barPay c d := rfl
theorem payload_send (d : Fin 3) : (sched (F := F) m).payload (sendCell c t) 0 d = sendPay m c t.1.val t.2.val := by
  obtain ⟨b, o⟩ := t
  dsimp only [sched]
  rw [sendS_val, if_neg (by omega), show (2 + (3 * b.val + o.val) - 2) / 3 = b.val by omega, show (2 + (3 * b.val + o.val) - 2) % 3 = o.val by omega]
theorem payload_recv (d : Fin 3) : (sched (F := F) m).payload (recvCell c t) 0 d = recvPay m c t.1.val t.2.val := by
  obtain ⟨b, o⟩ := t
  dsimp only [sched]
  rw [recvS_val, if_pos (by omega), show (8 + (3 * b.val + o.val) - 8) / 3 = b.val by omega, show (8 + (3 * b.val + o.val) - 8) % 3 = o.val by omega]

/-- All of a barrier cell's round: the six slots device `c` writes. -/
theorem rest_bar : bigSep ((sched (F := F) m).duties (barCell c) 0 \ ∅) (fun d => (sched (F := F) m).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons,
    bigSepL_singleton, payload_bar, payload_bar, payload_bar]
  rfl
theorem rest_send : bigSep ((sched (F := F) m).duties (sendCell c t) 0 \ ∅) (fun d => (sched (F := F) m).payload (sendCell c t) 0 d)
    = sendPay m c t.1.val t.2.val := by
  rw [Finset.sdiff_empty, duties_send, bigSep_singleton, payload_send]
theorem rest_recv : bigSep ((sched (F := F) m).duties (recvCell c t) 0 \ ∅) (fun d => (sched (F := F) m).payload (recvCell c t) 0 d)
    = recvPay m c t.1.val t.2.val := by
  rw [Finset.sdiff_empty, duties_recv, bigSep_singleton, payload_recv]

end Sched

/-! ## What each device owes, and the levels -/

/-- Credit owed to the receive cells of the transfers in `l`, the head paid first. -/
def owedT (c : Dev nD) : List Tr → CellTallies nD τ sig Unit
  | [] => 0
  | t :: l => owedT c l + tallyAt (recvCell (fwd t.2 c) t) () N
/-- The six transfers in program order. -/
abbrev allTr : List Tr := [(b0, o0), (b0, o1), (b0, o2), (b1, o0), (b1, o1), (b1, o2)]
/-- The barrier units of the distances in `l`, the head paid first, on top of the six transfers' credit. -/
def owedB (c : Dev nD) : List (Fin 3) → CellTallies nD τ sig Unit
  | [] => owedT c allTr
  | o :: l => owedB c l + tallyAt (barCell (fwd o c)) () 1
/-- All a device owes at launch. -/
abbrev owed₀ (c : Dev nD) : CellTallies nD τ sig Unit := owedB c [0, 1, 2]

def L (g : GSem nD τ sig) : Finset Unit := if g.1.2 = .tc then {()} else ∅
/-- Barrier cells at level 1, receive cells at level 2, send and staging cells at level 0. -/
def lv (g : GSem nD τ sig) (_ : Unit) : ℕ := match g.2 with
  | .reg _ => 1
  | .dma q => if 8 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_recv (c : Dev nD) (t : Tr) (u : Unit) : lv (recvCell c t) u = 2 := by
  dsimp only [lv, recvS]; exact if_pos (by omega)

theorem tallyAt_pos {g g' : GSem nD τ sig} {n : ℕ} {u : Unit} (h : 0 < tallyAt g () n g' u) : g' = g := by
  rw [tallyAt_apply] at h
  by_contra hn
  rw [if_neg fun h' => hn h'.1] at h
  exact Nat.lt_irrefl 0 h

theorem owedT_pos {c : Dev nD} {g : GSem nD τ sig} {u : Unit} : ∀ {l : List Tr}, 0 < owedT c l g u → ∃ d t, g = recvCell d t
  | [], h => absurd h (Nat.lt_irrefl 0)
  | t :: l, h => by
    unfold owedT at h
    rw [Pi.add_apply, Finsupp.add_apply] at h
    rcases Nat.add_pos_iff_pos_or_pos.mp h with h | h
    · exact owedT_pos h
    · exact ⟨_, _, tallyAt_pos h⟩

theorem owedB_pos {c : Dev nD} {g : GSem nD τ sig} {u : Unit} :
    ∀ {l : List (Fin 3)}, 0 < owedB c l g u → (∃ d t, g = recvCell d t) ∨ ∃ d, g = barCell d
  | [], h => .inl (owedT_pos h)
  | o :: l, h => by
    unfold owedB at h
    rw [Pi.add_apply, Finsupp.add_apply] at h
    rcases Nat.add_pos_iff_pos_or_pos.mp h with h | h
    · exact owedB_pos h
    · exact .inr ⟨_, tallyAt_pos h⟩

omit [FloatOps F] in
/-- The staging pipeline's waits are below everything a device may owe around them. -/
theorem mayWait_stage (c : Dev nD) (q : DmaSem sig) (hq : q.val < 2) (O : CellTallies nD τ sig Unit) (hO : O = owed₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owedB_pos hg with ⟨d, t, rfl⟩ | ⟨d, rfl⟩ <;> exact Finset.mem_singleton_self _)
      (fun p hp => by rw [Finset.mem_singleton.mp hp]; dsimp only [lv]; rw [if_neg (by omega)])
      (fun g u hg => by
        rcases owedB_pos hg with ⟨d, t, rfl⟩ | ⟨d, rfl⟩
        · rw [lv_recv]; decide
        · rw [lv_bar]; decide)
  · rw [MayWait_zero]; iintro -; iempintro

omit [FloatOps F] in
/-- At its barrier wait a device owes receive credit only, which lies above its barrier cell. -/
theorem mayWait_bar (c : Dev nD) (l : List Tr) :
    (levAts L lv : sProp 𝕄) ⊢ MayWait (c : Thread nD τ) (.reg barS) () (owedT c l) :=
  MayOwe.of_cut (L := L) (lev := lv) 1 (fun p hp => by rw [Finset.mem_singleton.mp hp, L_tc]; exact Finset.mem_singleton_self _)
    (fun g u hg => by obtain ⟨d, t, rfl⟩ := owedT_pos hg; exact Finset.mem_singleton_self _)
    (fun p hp => by rw [Finset.mem_singleton.mp hp]; exact le_of_eq (lv_bar c ()))
    (fun g u hg => by obtain ⟨d, t, rfl⟩ := owedT_pos hg; rw [lv_recv]; decide)

end Cert.Softmax

end
-- ==== Proof.Slots.lean ====
/-
# The statistics slots and the two halves: which elements an access touches, and what it finds there

Every access of the kernel to the statistics buffer lies in one slot `(b, k)`; every access to the input, to the
exponentials and to the output is one half of 1024 rows. Stated once for every slot, every half, every access.
-/
module

public import proofs.«01_k».proof.Proof.Common

@[expose] public section

set_option maxRecDepth 16384

noncomputable section

namespace Cert.Softmax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## A slot as the transfers name it -/

/-- The elements of the view of slot `(b, k)`. -/
theorem slotM_set (b k : ℕ) (h) : (slotM b k h).view.set = slotSet b k := by
  rw [Memref.set_view_squeeze]
  refine Eq.trans (View.set_slice_whole (κ := .tc) cc0_scratch1 (Rect.unit (s := S2x4x16x128) ![b, k, 0, 0] S1x1x16x128.size h)) ?_
  ext i
  rw [Rect.mem_set_unit, mem_slotSet]
  have h2 : (i 2).val < 16 := (i 2).isLt
  have h3 : (i 3).val < 128 := (i 3).isLt
  constructor
  · intro H
    have H0 : b ≤ (i 0).val ∧ (i 0).val < b + 1 := H 0
    have H1 : k ≤ (i 1).val ∧ (i 1).val < k + 1 := H 1
    omega
  · rintro ⟨H0, H1⟩ a
    fin_cases a
    · show b ≤ (i 0).val ∧ (i 0).val < b + 1; omega
    · show k ≤ (i 1).val ∧ (i 1).val < k + 1; omega
    · show 0 ≤ (i 2).val ∧ (i 2).val < 0 + 16; omega
    · show 0 ≤ (i 3).val ∧ (i 3).val < 0 + 128; omega

/-- Two slots' views put the same slot index at the same row and lane. -/
theorem slotM_emb (b k b' k' : ℕ) (h h') (x : S16x128.Idx) :
    ((slotM b k h).view.emb x 2 : S2x4x16x128.Coord 2) = (slotM b' k' h').view.emb x 2
      ∧ ((slotM b k h).view.emb x 3 : S2x4x16x128.Coord 3) = (slotM b' k' h').view.emb x 3 :=
  ⟨rfl, rfl⟩

/-- A transfer from slot `(b, 0)` into slot `(b, k)` lands, at each element of the slot, the source's number at the same
    row and lane. -/
theorem landed (b k : ℕ) (h h') (fd fs g : S2x4x16x128.Idx → Elt F .f32)
    (hg : ∀ i j : S2x4x16x128.Idx, i ∈ slotSet b k → j ∈ slotSet b 0 → i 2 = j 2 → i 3 = j 3 → fs j = g i) :
    ∀ i ∈ slotSet b k, (slotM b k h').view.write (Elt F) fd ((slotM b 0 h).view.read (Elt F) fs) Finset.univ i = g i := by
  intro i hi
  rw [← slotM_set b k h'] at hi
  obtain ⟨x, -, rfl⟩ := Finset.mem_map.mp hi
  refine (View.write_emb_of_mem (v := (slotM b k h').view) fd _ (Finset.mem_univ x)).trans ?_
  refine hg _ ((slotM b 0 h).view.emb x) ?_ ?_ (slotM_emb b k b 0 h' h x).1 (slotM_emb b k b 0 h' h x).2
  · rw [← slotM_set b k h']; exact View.emb_mem_set _ x
  · rw [← slotM_set b 0 h]; exact View.emb_mem_set _ x

/-! ## Reading and writing the statistics -/

/-- The eight rows of slot `(b, k)` from row `r`. -/
abbrev statR (b k r : ℕ) (h : ∀ a, (![b, k, r, 0] : Fin 4 → ℕ) a + S1x1x8x128.size a ≤ S2x4x16x128.size a) : Rect S2x4x16x128 :=
  Rect.unit (s := S2x4x16x128) ![b, k, r, 0] S1x1x8x128.size h

theorem mem_statR {b k r : ℕ} {h} {i : S2x4x16x128.Idx} :
    i ∈ (statR b k r h).set ↔ (i 0).val = b ∧ (i 1).val = k ∧ r ≤ (i 2).val ∧ (i 2).val < r + 8 := by
  rw [Rect.mem_set_unit]
  have h3 : (i 3).val < 128 := (i 3).isLt
  constructor
  · intro H
    have H0 : b ≤ (i 0).val ∧ (i 0).val < b + 1 := H 0
    have H1 : k ≤ (i 1).val ∧ (i 1).val < k + 1 := H 1
    have H2 : r ≤ (i 2).val ∧ (i 2).val < r + 8 := H 2
    omega
  · rintro ⟨H0, H1, H2, H2'⟩ a
    fin_cases a
    · show b ≤ (i 0).val ∧ (i 0).val < b + 1; omega
    · show k ≤ (i 1).val ∧ (i 1).val < k + 1; omega
    · show r ≤ (i 2).val ∧ (i 2).val < r + 8; omega
    · show 0 ≤ (i 3).val ∧ (i 3).val < 0 + 128; omega

theorem statR_subset (b k r : ℕ) (h) : (statR b k r h).set ⊆ slotSet b k := fun i hi => by
  rw [mem_statR] at hi; exact mem_slotSet.mpr ⟨hi.1, hi.2.1⟩

/-- Loading the eight maximum rows of a filled slot. -/
theorem load_max (c : Dev nD) (b : Fin 2) (k : Fin 4) (h) :
    cM.view.readAt (Elt F) (statR b.val k.val 0 h).toLoadRect (commF m c) = k0_pay6 (xhalf m (home k c) b) := by
  funext y
  idx_vars y
  show stat m (home _ c) _ _ _ = _
  have e0 : ((statR b.val k.val 0 h).emb (ix4 y0 y1 y2 y3) 0 : Fin 2) = b := Fin.ext (by show b.val + 1 * y0.val = b.val; omega)
  have e1 : ((statR b.val k.val 0 h).emb (ix4 y0 y1 y2 y3) 1 : Fin 4) = k := Fin.ext (by show k.val + 1 * y1.val = k.val; omega)
  have e2 : ((statR b.val k.val 0 h).emb (ix4 y0 y1 y2 y3) 2 : Fin 16) = ⟨y2.val, Nat.lt_of_lt_of_le y2.isLt (by decide)⟩ := Fin.ext (by show 0 + 1 * y2.val = y2.val; omega)
  have e3 : ((statR b.val k.val 0 h).emb (ix4 y0 y1 y2 y3) 3 : Fin 128) = y3 := Fin.ext (by show 0 + 1 * y3.val = y3.val; omega)
  refine (show _ = stat m (home k c) b ⟨y2.val, Nat.lt_of_lt_of_le y2.isLt (by decide)⟩ y3 from ?_).trans ?_
  · exact congr (congr (congr (congrArg (stat m) (congrArg (home · c) e1)) e0) e2) e3
  · unfold stat
    rw [dif_pos y2.isLt]
    have z0 : y0 = 0 := by omega
    have z1 : y1 = 0 := by omega
    subst z0 z1; rfl

/-- Loading the eight sum rows of a filled slot. -/
theorem load_sum (c : Dev nD) (b : Fin 2) (k : Fin 4) (h) :
    cM.view.readAt (Elt F) (statR b.val k.val 8 h).toLoadRect (commF m c) = k0_pay7 (xhalf m (home k c) b) := by
  funext y
  idx_vars y
  show stat m (home _ c) _ _ _ = _
  have e0 : ((statR b.val k.val 8 h).emb (ix4 y0 y1 y2 y3) 0 : Fin 2) = b := Fin.ext (by show b.val + 1 * y0.val = b.val; omega)
  have e1 : ((statR b.val k.val 8 h).emb (ix4 y0 y1 y2 y3) 1 : Fin 4) = k := Fin.ext (by show k.val + 1 * y1.val = k.val; omega)
  have e2 : ((statR b.val k.val 8 h).emb (ix4 y0 y1 y2 y3) 2 : Fin 16) = ⟨8 + y2.val, Nat.add_lt_add_left y2.isLt 8⟩ := Fin.ext (by show 8 + 1 * y2.val = 8 + y2.val; omega)
  have e3 : ((statR b.val k.val 8 h).emb (ix4 y0 y1 y2 y3) 3 : Fin 128) = y3 := Fin.ext (by show 0 + 1 * y3.val = y3.val; omega)
  refine (show _ = stat m (home k c) b ⟨8 + y2.val, Nat.add_lt_add_left y2.isLt 8⟩ y3 from ?_).trans ?_
  · exact congr (congr (congr (congrArg (stat m) (congrArg (home · c) e1)) e0) e2) e3
  · unfold stat
    rw [dif_neg (by show ¬ (8 + y2.val < 8); omega)]
    have z0 : y0 = 0 := by omega
    have z1 : y1 = 0 := by omega
    subst z0 z1
    exact congrArg (fun r => k0_pay7 (xhalf m (home k c) b) (ix4 (0 : Fin 1) (0 : Fin 1) r y3)) (Fin.ext (by show 8 + y2.val - 8 = y2.val; omega))

/-- Storing the maxima and then the sums of a half fills the device's own slot. -/
theorem stored (c : Dev nD) (b : Fin 2) (h h') (f : S2x4x16x128.Idx → Elt F .f32) :
    ∀ i ∈ slotSet b.val 0,
      (cM.access (statR b.val 0 8 h')).write (Elt F) ((cM.access (statR b.val 0 0 h)).write (Elt F) f (k0_pay6 (xhalf m c b)) Finset.univ)
        (k0_pay7 (xhalf m c b)) Finset.univ i = commF m c i := by
  intro i hi
  rw [mem_slotSet] at hi
  have h2 : (i 2).val < 16 := (i 2).isLt
  have hset : ∀ r hr, (cM.access (statR b.val 0 r hr)).setOn Finset.univ = (statR b.val 0 r hr).set := fun r hr =>
    View.set_slice_whole (κ := .tc) cc0_scratch1 _
  have hc : commF m c i = stat m c b (i 2) (i 3) := by
    show stat m (home (i 1) c) (i 0) (i 2) (i 3) = _
    rw [@Fin.ext 4 (i 1) 0 hi.2, home_zero, @Fin.ext 2 (i 0) b hi.1]
  rw [hc]
  by_cases hr : (i 2).val < 8
  · rw [View.write_of_not_mem _ _ _ (by rw [hset, mem_statR]; omega)]
    obtain ⟨x, hx⟩ : ∃ x : (statR b.val 0 0 h).shape.Idx, (cM.access (statR b.val 0 0 h)).emb x = i := by
      have : i ∈ (cM.access (statR b.val 0 0 h)).setOn Finset.univ := by rw [hset, mem_statR]; omega
      obtain ⟨x, -, hx⟩ := Finset.mem_map.mp this
      exact ⟨x, hx⟩
    subst hx
    refine (View.write_emb_of_mem _ _ (Finset.mem_univ x)).trans ?_
    idx_vars x
    unfold stat
    rw [dif_pos hr]
    have z0 : x0 = 0 := by omega
    have z1 : x1 = 0 := by omega
    subst z0 z1
    refine (cast_eq _ _).trans ?_
    refine congrArg (k0_pay6 (xhalf m c b)) ?_
    exact congr (congrArg (ix4 (0 : Fin 1) (0 : Fin 1)) (Fin.ext (by show x2.val = 0 + 1 * x2.val; omega))) (Fin.ext (by show x3.val = 0 + 1 * x3.val; omega))
  · obtain ⟨x, hx⟩ : ∃ x : (statR b.val 0 8 h').shape.Idx, (cM.access (statR b.val 0 8 h')).emb x = i := by
      have : i ∈ (cM.access (statR b.val 0 8 h')).setOn Finset.univ := by rw [hset, mem_statR]; omega
      obtain ⟨x, -, hx⟩ := Finset.mem_map.mp this
      exact ⟨x, hx⟩
    subst hx
    refine (View.write_emb_of_mem _ _ (Finset.mem_univ x)).trans ?_
    idx_vars x
    unfold stat
    rw [dif_neg hr]
    have z0 : x0 = 0 := by omega
    have z1 : x1 = 0 := by omega
    subst z0 z1
    refine congrArg (k0_pay7 (xhalf m c b)) ?_
    exact congr (congrArg (ix4 (0 : Fin 1) (0 : Fin 1)) (Fin.ext (by show x2.val = 8 + 1 * x2.val - 8; omega))) (Fin.ext (by show x3.val = 0 + 1 * x3.val; omega))

/-- A transfer of a device's own slot lands the slot `o + 1` of the device `o + 1` places after it, filled. -/
theorem landed_comm (c : Dev nD) (b : Fin 2) (o : Fin 3) (h) (k : ℕ) (hk : k = o.val + 1) (h')
    (fd : S2x4x16x128.Idx → Elt F .f32) :
    ∀ i ∈ slotSet b.val k,
      (slotM b.val k h').view.write (Elt F) fd ((slotM b.val 0 h).view.read (Elt F) (commF m c)) Finset.univ i = commF m (fwd o c) i :=
  landed b.val k h h' fd (commF m c) (commF m (fwd o c)) fun i j hi hj h2 h3 => by
    rw [mem_slotSet] at hi hj
    show stat m (home (j 1) c) (j 0) (j 2) (j 3) = stat m (home (i 1) (fwd o c)) (i 0) (i 2) (i 3)
    rw [@Fin.ext 4 (j 1) 0 hj.2, home_zero, @Fin.ext 4 (i 1) o.succ (by rw [hi.2, hk]; rfl), home_succ_fwd, h2, h3,
      @Fin.ext 2 (j 0) (i 0) (by rw [hj.1, hi.1])]

/-! ## Ownership: the buffer as eight slots, a slot as three lent shares -/

/-- The buffer is its eight slots. -/
theorem comm_slots (c : Dev nD) (f : Buf (Elt F) ((c : Thread nD τ).loc cc0_scratch1)) :
    ((((c : Thread nD τ).loc cc0_scratch1) ↦{fullShare} f : sProp 𝕄))
      = iprop((slotPts c 0 0 fullShare f ∗ slotPts c 1 0 fullShare f)
          ∗ (slotPts c 0 1 fullShare f ∗ slotPts c 1 1 fullShare f)
          ∗ (slotPts c 0 2 fullShare f ∗ slotPts c 1 2 fullShare f)
          ∗ (slotPts c 0 3 fullShare f ∗ slotPts c 1 3 fullShare f)) := by
  have hu : (Finset.univ : Finset S2x4x16x128.Idx) = (Finset.univ : Finset (Fin 4 × Fin 2)).biUnion fun t => slotSet t.2.val t.1.val := by
    ext i
    simp only [Finset.mem_univ, Finset.mem_biUnion, true_and, true_iff]
    exact ⟨(i 1, i 0), mem_slotSet.mpr ⟨rfl, rfl⟩⟩
  have hd : ∀ t ∈ (Finset.univ : Finset (Fin 4 × Fin 2)), ∀ t' ∈ (Finset.univ : Finset (Fin 4 × Fin 2)), t ≠ t' →
      Disjoint (slotSet t.2.val t.1.val) (slotSet t'.2.val t'.1.val) := fun t _ t' _ hne =>
    Finset.disjoint_left.mpr fun i hi hi' => hne (by
      rw [mem_slotSet] at hi hi'
      exact Prod.ext (Fin.ext (hi.2.symm.trans hi'.2)) (Fin.ext (hi.1.symm.trans hi'.1)))
  have h := pointsTo_biUnion (Ix := Unit) (Name := ℕ) (U := UU) (Lvl := ℕ) (ℓ := (c : Thread nD τ).loc cc0_scratch1) (q := fullShare) (f := f) Finset.univ
    (fun t : Fin 4 × Fin 2 => slotSet t.2.val t.1.val) hd
  refine ((congrArg (fun S => (((c : Thread nD τ).loc cc0_scratch1) ↦[S]{fullShare} f : sProp 𝕄)) hu).trans h).trans ?_
  rw [bigSep_univ_prod, bigSep_univ_eq_bigSepL [0, 1, 2, 3] (by decide) (by decide), bigSepL_cons_cons, bigSepL_cons_cons, bigSepL_cons_cons,
    bigSepL_singleton]
  simp only [BI.bigSep_fin_two]
  rfl

/-- A slot is the three shares of it that a device lends to its transfers. -/
theorem slot_lent (c : Dev nD) (b k : ℕ) (f : Buf (Elt F) ((c : Thread nD τ).loc cc0_scratch1)) :
    (slotPts c b k fullShare f : sProp 𝕄) ⊣⊢ iprop(slotPts c b k (lent 0) f ∗ slotPts c b k (lent 1) f ∗ slotPts c b k (lent 2) f) := by
  unfold slotPts lent
  have h1 := pointsTo_share (Ix := Unit) (Name := ℕ) (U := UU) (Lvl := ℕ) (ℓ := (c : Thread nD τ).loc cc0_scratch1) (I := slotSet b k) (f := f)
    (PosShare.mem_left_op_right fullShare)
  have h2 := pointsTo_share (Ix := Unit) (Name := ℕ) (U := UU) (Lvl := ℕ) (ℓ := (c : Thread nD τ).loc cc0_scratch1) (I := slotSet b k) (f := f)
    (PosShare.mem_left_op_right fullShare.right)
  exact ⟨h1.1.trans (sep_mono_right h2.1), (sep_mono_right h2.2).trans h1.2⟩

/-! ## The two halves of a 2048-row buffer -/

/-- The array whose half `b` is `w b`. -/
def twoHalves {α : Type} (w : Fin 2 → S1024x1024.Idx → α) : S2048x1024.Idx → α := fun i =>
  w ⟨(i 0).val / 1024, by have : (i 0).val < 2048 := (i 0).isLt; omega⟩ (ix2 (⟨(i 0).val % 1024, by omega⟩ : Fin 1024) (i 1))

theorem mem_halfR {b : Fin 2} {i : S2048x1024.Idx} : i ∈ (halfR b).set ↔ 1024 * b.val ≤ (i 0).val ∧ (i 0).val < 1024 * b.val + 1024 := by
  rw [Rect.mem_set_unit]
  have h1 : (i 1).val < 1024 := (i 1).isLt
  constructor
  · intro H; exact H 0
  · rintro H a
    fin_cases a
    · exact H
    · show 0 ≤ (i 1).val ∧ (i 1).val < 0 + 1024; omega

theorem twoHalves_emb {α : Type} (w : Fin 2 → S1024x1024.Idx → α) (b : Fin 2) (x : S1024x1024.Idx) : twoHalves w ((halfR b).emb x) = w b x := by
  have hb : b.val < 2 := b.isLt
  idx_vars x
  have e0 : ((halfR b).emb (ix2 x0 x1) 0).val = 1024 * b.val + x0.val := by show 1024 * b.val + 1 * x0.val = _; omega
  unfold twoHalves
  have q : (⟨((halfR b).emb (ix2 x0 x1) 0).val / 1024, by rw [e0]; omega⟩ : Fin 2) = b := Fin.ext (by show _ / 1024 = b.val; rw [e0]; omega)
  refine congr (congrArg w q) (congr (congrArg ix2 (Fin.ext ?_)) (Fin.ext ?_))
  · show _ % 1024 = x0.val; rw [e0]; omega
  · show 0 + 1 * x1.val = x1.val; omega

/-- An array is determined by its two halves. -/
theorem eq_twoHalves {α : Type} (g : S2048x1024.Idx → α) (w : Fin 2 → S1024x1024.Idx → α) (h : ∀ b x, g ((halfR b).emb x) = w b x) :
    g = twoHalves w := by
  funext i
  obtain ⟨b, hb⟩ : ∃ b : Fin 2, i ∈ (halfR b).set := by
    have hi : (i 0).val < 2048 := (i 0).isLt
    by_cases h0 : (i 0).val < 1024
    · exact ⟨0, mem_halfR.mpr (by show 1024 * 0 ≤ _ ∧ _ < 1024 * 0 + 1024; omega)⟩
    · exact ⟨1, mem_halfR.mpr (by show 1024 * 1 ≤ _ ∧ _ < 1024 * 1 + 1024; omega)⟩
  obtain ⟨x, rfl⟩ : ∃ x, (halfR b).emb x = i := by
    have hc : i ∈ (eM.access (halfR b)).set := by
      rw [View.set_slice_whole (κ := .tc) cc0_scratch0 (halfR b)]; exact hb
    obtain ⟨x, -, hx⟩ := Finset.mem_map.mp hc
    exact ⟨x, hx⟩
  exact (h b x).trans (twoHalves_emb w b x).symm

/-- The element of half 0 at `x` is no element of half 1. -/
theorem half0_not_mem (x : S1024x1024.Idx) : (halfR 0).emb x ∉ (halfR 1).set := by
  rw [mem_halfR]
  idx_vars x
  show ¬ (1024 * 1 ≤ 1024 * 0 + 1 * x0.val ∧ _)
  omega

/-- Loading half `b` of an array made of two halves. -/
theorem load_half (w : Fin 2 → S1024x1024.Idx → Elt F .bf16) (b : Fin 2) :
    eM.view.readAt (Elt F) (halfR b).toLoadRect (twoHalves w) = w b :=
  funext fun x => twoHalves_emb w b x

/-- Storing half 0 and then half 1 of the exponentials. -/
theorem store_halves_e (w0 w1 : S1024x1024.Idx → Elt F .bf16) (f : S2048x1024.Idx → Elt F .bf16) :
    (eM.access (halfR b1)).write (Elt F) ((eM.access (halfR b0)).write (Elt F) f w0 Finset.univ) w1 Finset.univ = twoHalves ![w0, w1] := by
  refine eq_twoHalves _ _ fun b x => ?_
  fin_cases b
  · refine (View.write_of_not_mem (v := eM.access (halfR b1)) _ _ _ (i := (halfR b0).emb x) ?_).trans ?_
    · rw [View.setOn_univ]
      exact fun hx => half0_not_mem x ((View.set_slice_whole (κ := .tc) cc0_scratch0 (halfR b1)) ▸ hx)
    · exact View.write_emb_of_mem (v := eM.access (halfR b0)) f w0 (Finset.mem_univ x)
  · exact View.write_emb_of_mem (v := eM.access (halfR b1)) _ w1 (Finset.mem_univ x)

/-- Storing half 0 and then half 1 of the output. -/
theorem store_halves_o (w0 w1 : S1024x1024.Idx → Elt F .bf16) (f : S2048x1024.Idx → Elt F .bf16) :
    (oM.access (halfR b1)).write (Elt F) ((oM.access (halfR b0)).write (Elt F) f w0 Finset.univ) w1 Finset.univ = twoHalves ![w0, w1] := by
  refine eq_twoHalves _ _ fun b x => ?_
  fin_cases b
  · refine (View.write_of_not_mem (v := oM.access (halfR b1)) _ _ _ (i := (halfR b0).emb x) ?_).trans ?_
    · rw [View.setOn_univ]
      exact fun hx => half0_not_mem x ((View.set_slice_whole (κ := .tc) cc0_stg1_0 (halfR b1)) ▸ hx)
    · exact View.write_emb_of_mem (v := oM.access (halfR b0)) f w0 (Finset.mem_univ x)
  · exact View.write_emb_of_mem (v := oM.access (halfR b1)) _ w1 (Finset.mem_univ x)

/-! ## What a device computes -/

/-- The exponentials of half `b` against the device's own row maxima. -/
def expHalf (c : Dev nD) (b : Fin 2) : FVec F S1024x1024 .bf16 := k0_pay5 (xhalf m c b)

/-- The result's half `b` on device `c`, from the four devices' statistics (nearest first) and its own exponentials. -/
def outHalf (c : Dev nD) (b : Fin 2) : FVec F S1024x1024 .bf16 :=
  let mx (k : Fin 4) := k0_pay6 (xhalf m (home k c) b)
  let sm (k : Fin 4) := k0_pay7 (xhalf m (home k c) b)
  let M01 := k0_pay14 (mx s0) (mx s1)
  let M2 := k0_pay15 (mx s2)
  k0_pay18 (k0_pay16 M01 M2 (mx s3)) (k0_pay17 M01 M2 (mx s3) (sm s0) (mx s0) (sm s1) (mx s1) (sm s2) (mx s2)) (sm s3) (mx s3) (mx s0) (expHalf m c b)

/-- The result on device `c`. -/
def outAt (c : Dev nD) : (cc0_stg1_0 : Ref sig .tc).ty.Contents (Elt F) := twoHalves ![outHalf m c b0, outHalf m c b1]

end Cert.Softmax

end
-- ==== Proof.Steps.lean ====
/-
# One step of the run each

What a signal, a transfer, a wait, a load and a store of the kernel do to what a device holds: stated once for every
distance, every transfer and every slot, at the contents of the run.
-/
module

public import proofs.«01_k».proof.Proof.Slots

@[expose] public section

set_option maxRecDepth 16384

noncomputable section

namespace Cert.Softmax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The names of the cells' invariants. -/
abbrev Names := Dev nD × (Unit ⊕ (Tr ⊕ Tr)) → ℕ

variable (m : (ℓ : Loc nD τ sig) → Buf (Elt F) ℓ) (K : Names)

/-- The program `p` runs on device `c` to `Q`. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` owes `O`, whatever it has waited for. -/
def owesAny (c : Dev nD) (O : CellTallies nD τ sig Unit) : sProp 𝕄 := iprop(∃ W, owes (c : Thread nD τ) O W)

/-! ## The barrier -/

/-- What lets `c` signal the device `o + 1` places on. -/
def barDuty (c : Dev nD) (o : Fin 3) : sProp 𝕄 :=
  iprop(cellInv ER (sched m) (K (fwd o c, .inl ())) (barCell (fwd o c)) ∗ reached ER (barCell (fwd o c)) 0 ∗ dutyTok ER (barCell (fwd o c)) 0 o.rev)

/-- The two slots of `c` that the device `o + 1` places BEFORE it fills. -/
def given (c : Dev nD) (o : Fin 3) : sProp 𝕄 := iprop(∃ f, slotPts c 0 (o.val + 1) fullShare f ∗ slotPts c 1 (o.val + 1) fullShare f)

/-- A signal pays one barrier unit and hands over the two slots the signalled device fills. -/
theorem step_signal (c n : Dev nD) (o : Fin 3) (hn : n = fwd o c) (l : List (Fin 3)) {α : Type} {Q : α → sProp 𝕄}
    {k : PUnit → Prog (TpuEff nD τ sig (Elt F) Λ₀ .tc) α} :
    barDuty m K c o
      ⊢ iprop(given c o.rev -∗ owesAny c (owedB c (o :: l)) -∗ (owesAny c (owedB c l) -∗ runs c (k ⟨⟩) Q) -∗ runs c (.op (.semSignal ((n, .tc) : Thread nD τ) barS (1#32 : BitVec 32).toInt) k) Q) := by
  subst hn
  unfold barDuty owesAny runs
  iintro ⟨#HI, #Hr, Htok⟩ Hg ⟨%W, HO⟩ Hk
  iapply (Rounds.wp_signal 𝒱₀ ER (sched m) (c : Thread nD τ) none (dst := (fwd o c : Thread nD τ)) (κ := K (fwd o c, .inl ()))
      (d := o.rev) (by rw [duties_bar]; exact Finset.mem_univ _) ((amount_bar m (fwd o c) o.rev).trans (by decide)) () (owedB c l) rfl)
    $$ [HO Htok Hg]
  · isplitr; · iexact HI
    isplitl [HO]; · iexact HO
    isplitl [Htok]; · iexact Htok
    isplitl [Hg]
    · rw [payload_bar]; unfold barPay given; rw [fwd_rev_fwd]; iexact Hg
    · iexact Hr
  iintro HO
  iapply Hk
  iexists W; iexact HO

/-- What lets `c` wait for its barrier. -/
def barTurn (c : Dev nD) : sProp 𝕄 :=
  iprop(cellInv ER (sched m) (K (c, .inl ())) (barCell c) ∗ levAts L lv ∗ cred (tallyAt (barCell c) () 3) ∗ atPos ER (barCell c) 0 ∅ 0)

/-- The barrier wait brings the six slots that `c` fills, and closes the barrier cell at zero. -/
theorem step_barrier (c : Dev nD) {α : Type} {Q : α → sProp 𝕄} {k : PUnit → Prog (TpuEff nD τ sig (Elt F) Λ₀ .tc) α} :
    barTurn m K c
      ⊢ iprop(owesAny c (owedB c []) -∗ ((owesAny c (owedT c allTr) ∗ barPay c 0 ∗ barPay c 1 ∗ barPay c 2 ∗ semVal (barCell c) 0) -∗ runs c (k ⟨⟩) Q)
          -∗ runs c (.op (.semWait barS (3#32 : BitVec 32).toInt) k) Q) := by
  unfold barTurn owesAny runs owedB
  iintro ⟨#HI, #Hlev, Hc, Hat⟩ ⟨%W, HO⟩ Hk
  iapply (Rounds.wp_wait_rest_token 𝒱₀ ER (sched m) (c : Thread nD τ) none (κ := K (c, .inl ()))
      (wpE_semWait_eq 𝒱₀ (c : Thread nD τ) none Set.univ) (Set.mem_univ _) () (O := owedT c allTr) (W := W) (R := 0) (m := 0) (T := ∅)
      (by rw [expect_bar]; decide)) $$ [Hc HO Hat]
  · isplitr; · iexact HI
    isplitl [Hc]; · iexact Hc
    isplitl [HO]; · iexact HO
    isplitr; · iapply (mayWait_bar c allTr); iexact Hlev
    iexact Hat
  iintro ⟨HO, Hat, -, Hpay⟩
  ihave Hp := (Entails.of_eq (rest_bar m c)) $$ Hpay
  imod (Rounds.cell_close ER (sched m) (Set.mem_univ (K (c, .inl ()))) (fun h => h) (R := 0 + 1) (duties_later m (barCell c))) $$ [Hat] with Hz
  · isplitr; · iexact HI
    iexact Hat
  icases Hp with ⟨H0, H1, H2⟩
  iapply Hk
  isplitl [HO]; · iexists _; iexact HO
  isplitl [H0]; · iexact H0
  isplitl [H1]; · iexact H1
  isplitl [H2]; · iexact H2
  iexact Hz

/-! ## The transfers -/

/-- What lets `c` start transfer `t` and wait for its two ends. -/
def pend (c : Dev nD) (t : Tr) : sProp 𝕄 :=
  iprop(cellInv ER (sched m) (K (c, .inr (.inl t))) (sendCell c t) ∗ cellInv ER (sched m) (K (c, .inr (.inr t))) (recvCell c t)
    ∗ cellInv ER (sched m) (K (fwd t.2 c, .inr (.inr t))) (recvCell (fwd t.2 c) t)
    ∗ reached ER (sendCell c t) 0 ∗ reached ER (recvCell (fwd t.2 c) t) 0
    ∗ dutyTok ER (sendCell c t) 0 0 ∗ dutyTok ER (recvCell (fwd t.2 c) t) 0 0
    ∗ atPos ER (sendCell c t) 0 ∅ 0 ∗ atPos ER (recvCell c t) 0 ∅ 0 ∗ cred (tallyAt (recvCell c t) () N))

/-- What lets `c` wait for the source end of transfer `t`. -/
def flightS (c : Dev nD) (t : Tr) : sProp 𝕄 :=
  iprop(cellInv ER (sched m) (K (c, .inr (.inl t))) (sendCell c t) ∗ atPos ER (sendCell c t) 0 ∅ 0 ∗ cred (tallyAt (sendCell c t) () N))

/-- What lets `c` wait for the transfer `t` that comes to it. -/
def flightR (c : Dev nD) (t : Tr) : sProp 𝕄 :=
  iprop(cellInv ER (sched m) (K (c, .inr (.inr t))) (recvCell c t) ∗ atPos ER (recvCell c t) 0 ∅ 0 ∗ cred (tallyAt (recvCell c t) () N))

omit [FloatOps F] in
theorem slotPts_view (c : Dev nD) (b k : ℕ) (h) (q : PosShare TreeShare) (f) :
    (slotPts c b k q f : sProp 𝕄) = ((slotM b k h).view.loc (c : Thread nD τ) ↦[(slotM b k h).view.set]{q} f) := by
  unfold slotPts
  exact congrArg (fun S => (((c : Thread nD τ).loc cc0_scratch1) ↦[S]{q} f : sProp 𝕄)) (slotM_set b k h).symm

omit [FloatOps F] in
/-- Every slot's transfer pays the same credit. -/
theorem slotM_amount (b k : ℕ) (h) (q : DmaSem sig) : (slotM b k h).view.amount (.dma q) = N := rfl

set_option maxHeartbeats 1600000 in
/-- A transfer lends a share of the own slot, gives up the slot it fills, and pays the receive credit of the far end. -/
theorem step_send (c n : Dev nD) (b : Fin 2) (o : Fin 3) (hn : n = fwd o c) (l : List Tr) {h} {h'}
    {hsc : (slotM b.val (o.val + 1) h' : Memref sig (Dev.tc n : Thread nD τ).2.kind .vmem S16x128 .f32).view.ref.isScScratch = false}
    {hsrc : (slotM b.val 0 h).view.WordExact} {hdst : (slotM b.val (o.val + 1) h').view.WordExact}
    {hsem : DmaTarget.Typed .vmem (.dma (recvS (b, o)))
      (.remote (Dev.tc n : Thread nD τ) (slotM b.val (o.val + 1) h' : Memref sig .tc .vmem S16x128 .f32) (.dma (sendS (b, o))) hsc)}
    {α : Type} {Q : α → sProp 𝕄} {k : PUnit → Prog (TpuEff nD τ sig (Elt F) Λ₀ .tc) α} :
    pend m K c (b, o)
      ⊢ iprop(owesAny c (owedT c ((b, o) :: l)) -∗ slotPts c b.val 0 (lent o.val) (commF m c)
          -∗ (∃ f, slotPts (fwd o c) b.val (o.val + 1) fullShare f) -∗ ((flightS m K c (b, o) ∗ flightR m K c (b, o) ∗ owesAny c (owedT c l)) -∗ runs c (k ⟨⟩) Q)
          -∗ runs c (.op (.enqueueDma (slotM b.val 0 h) (.remote (Dev.tc n : Thread nD τ) (slotM b.val (o.val + 1) h') (.dma (sendS (b, o))) hsc)
              (.dma (recvS (b, o))) hsrc hdst hsem) k) Q) := by
  subst hn
  unfold pend owesAny runs flightS flightR
  iintro ⟨#HIs, #HIr, #HIn, #Hrs, #Hrn, Hts, Htn, Has, Har, Hcr⟩ ⟨%W, HO⟩ Hsrc ⟨%fd, Hdst⟩ Hk
  ihave Hsrc := (Entails.of_eq (slotPts_view (F := F) c b.val 0 h (lent o.val) (commF m c))) $$ Hsrc
  ihave Hdst := (Entails.of_eq (slotPts_view (F := F) (fwd o c) b.val (o.val + 1) h' fullShare fd)) $$ Hdst
  iapply (Rounds.wp_send_pointsTo 𝒱₀ ER (sched m) (c : Thread nD τ) none (c' := (Dev.tc (fwd o c) : Thread nD τ)) (src := slotM b.val 0 h)
    (dst := slotM b.val (o.val + 1) h') (κ₁ := K (c, .inr (.inl (b, o)))) (κ₂ := K (fwd o c, .inr (.inr (b, o))))
    (r₁ := 0) (r₂ := 0) (d₁ := 0) (d₂ := 0) (fs := commF m c) (fd := fd)
    (by rw [duties_send]; exact Finset.mem_singleton_self _) (by rw [duties_recv]; exact Finset.mem_singleton_self _)
    () () N (slotM_amount b.val (o.val + 1) h' (recvS (b, o))) (amount_send m c (b, o) 0) (amount_recv m (fwd o c) (b, o) 0) (owedT c l) rfl (W := W)
    (by rw [payload_send]; unfold sendPay; exact Entails.of_eq (slotPts_view (F := F) c b.val 0 h (lent o.val) (commF m c)).symm)
    (by
      rw [payload_recv]; unfold recvPay
      refine Entails.trans (Entails.of_eq ?_) (Entails.of_eq (slotPts_view (F := F) (fwd o c) b.val (o.val + 1) h' fullShare (commF m (fwd o c))).symm)
      refine pointsTo_congr fun i hi => ?_
      rw [slotM_set] at hi
      exact landed_comm m c b o h (o.val + 1) rfl h' fd i hi)) $$ [HO Hts Htn Hsrc Hdst]
  · isplitr; · iexact HIs
    isplitr; · iexact HIn
    isplitl [Hsrc]; · iexact Hsrc
    isplitl [Hdst]; · iexact Hdst
    isplitl [HO]; · iexact HO
    isplitl [Hts]; · iexact Hts
    isplitr; · iexact Hrs
    isplitl [Htn]; · iexact Htn
    iexact Hrn
  iintro ⟨Hcs, HO⟩
  iapply Hk
  isplitl [Has Hcs]
  · isplitr; · iexact HIs
    isplitl [Has] <;> iassumption
  isplitl [Har Hcr]
  · isplitr; · iexact HIr
    isplitl [Har] <;> iassumption
  iexists W; iexact HO

/-- Waiting for the source end of a transfer brings back the lent share and closes its cell at zero. -/
theorem step_wait_send (c : Dev nD) (b : Fin 2) (o : Fin 3) {sp : Space} {s : Shape} {e : EltTy} {src : Memref sig .tc sp s e} {k' : ℕ} {h}
    {hsrc : src.view.WordExact} {hdst : (slotM b.val k' h).view.WordExact}
    {α : Type} {Q : α → sProp 𝕄} {k : PUnit → Prog (TpuEff nD τ sig (Elt F) Λ₀ .tc) α} :
    flightS m K c (b, o)
      ⊢ iprop(owesAny c 0 -∗ ((owesAny c 0 ∗ slotPts c b.val 0 (lent o.val) (commF m c) ∗ semVal (sendCell c (b, o)) 0) -∗ runs c (k ⟨⟩) Q)
          -∗ runs c (.op (.waitDma2 (sendS (b, o)) src (slotM b.val k' h) hsrc hdst) k) Q) := by
  unfold flightS owesAny runs
  iintro ⟨#HI, Hat, Hc⟩ ⟨%W, HO⟩ Hk
  iapply (Rounds.wp_wait_rest_token 𝒱₀ ER (sched m) (c : Thread nD τ) none (κ := K (c, .inr (.inl (b, o))))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_send m c (b, o))) $$ Hpay
  imod (Rounds.cell_close ER (sched m) (Set.mem_univ (K (c, .inr (.inl (b, o))))) (fun h => h) (R := 0 + 1) (duties_later m (sendCell c (b, o)))) $$ [Hat] with Hz
  · isplitr; · iexact HI
    iexact Hat
  iapply Hk
  isplitl [HO]; · iexists _; iexact HO
  isplitl [Hp]; · unfold sendPay; iexact Hp
  iexact Hz

/-- Waiting for the transfer that comes in brings its slot, filled, and closes its cell at zero. -/
theorem step_wait_recv (c : Dev nD) (b : Fin 2) (o : Fin 3) {sp : Space} {s : Shape} {e : EltTy} {src : Memref sig .tc sp s e} {k' : ℕ} {h}
    {hsrc : src.view.WordExact} {hdst : (slotM b.val k' h).view.WordExact}
    {α : Type} {Q : α → sProp 𝕄} {k : PUnit → Prog (TpuEff nD τ sig (Elt F) Λ₀ .tc) α} :
    flightR m K c (b, o)
      ⊢ iprop(owesAny c 0 -∗ ((owesAny c 0 ∗ slotPts c b.val (o.val + 1) fullShare (commF m c) ∗ semVal (recvCell c (b, o)) 0) -∗ runs c (k ⟨⟩) Q)
          -∗ runs c (.op (.waitDma2 (recvS (b, o)) src (slotM b.val k' h) hsrc hdst) k) Q) := by
  unfold flightR owesAny runs
  iintro ⟨#HI, Hat, Hc⟩ ⟨%W, HO⟩ Hk
  iapply (Rounds.wp_wait_rest_token 𝒱₀ ER (sched m) (c : Thread nD τ) none (κ := K (c, .inr (.inr (b, o))))
      (wpE_waitDma2_eq 𝒱₀ (c : Thread nD τ) none Set.univ) (Set.mem_univ _) () (O := 0) (W := W) (R := 0) (m := 0) (T := ∅)
      (by rw [Nat.zero_add, expect_recv])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_recv m c (b, o))) $$ Hpay
  imod (Rounds.cell_close ER (sched m) (Set.mem_univ (K (c, .inr (.inr (b, o))))) (fun h => h) (R := 0 + 1) (duties_later m (recvCell c (b, o)))) $$ [Hat] with Hz
  · isplitr; · iexact HI
    iexact Hat
  iapply Hk
  isplitl [HO]; · iexists _; iexact HO
  isplitl [Hp]; · unfold recvPay; iexact Hp
  iexact Hz

/-! ## Loads and stores -/

/-- Loading the maxima of a filled slot. -/
theorem step_load_max (c : Dev nD) (b : Fin 2) (k' : Fin 4) {q : PosShare TreeShare} {h} {hl : cM.view.LoadsAt (statR b.val k'.val 0 h).toLoadRect}
    {α : Type} {Q : α → sProp 𝕄} {k : Vec F S1x1x8x128 .f32 → Prog (TpuEff nD τ sig (Elt F) Λ₀ .tc) α} :
    (slotPts c b.val k'.val q (commF m c) : sProp 𝕄)
      ⊢ iprop((slotPts c b.val k'.val q (commF m c) -∗ runs c (k (k0_pay6 (xhalf m (home k' c) b))) Q)
          -∗ runs c (.op (.load cM (statR b.val k'.val 0 h).toLoadRect hl) k) Q) := by
  rw [← load_max m c b k' h]
  exact wp_load 𝒱₀ (c : Thread nD τ) none Set.univ (m := cM) (by
    rw [show cM.view.setOn (statR b.val k'.val 0 h).toLoadRect.set = (statR b.val k'.val 0 h).set from Finset.map_refl]
    exact statR_subset _ _ _ _)

/-- Loading the sums of a filled slot. -/
theorem step_load_sum (c : Dev nD) (b : Fin 2) (k' : Fin 4) {q : PosShare TreeShare} {h} {hl : cM.view.LoadsAt (statR b.val k'.val 8 h).toLoadRect}
    {α : Type} {Q : α → sProp 𝕄} {k : Vec F S1x1x8x128 .f32 → Prog (TpuEff nD τ sig (Elt F) Λ₀ .tc) α} :
    (slotPts c b.val k'.val q (commF m c) : sProp 𝕄)
      ⊢ iprop((slotPts c b.val k'.val q (commF m c) -∗ runs c (k (k0_pay7 (xhalf m (home k' c) b))) Q)
          -∗ runs c (.op (.load cM (statR b.val k'.val 8 h).toLoadRect hl) k) Q) := by
  rw [← load_sum m c b k' h]
  exact wp_load 𝒱₀ (c : Thread nD τ) none Set.univ (m := cM) (by
    rw [show cM.view.setOn (statR b.val k'.val 8 h).toLoadRect.set = (statR b.val k'.val 8 h).set from Finset.map_refl]
    exact statR_subset _ _ _ _)

omit [FloatOps F] in
/-- Loading eight rows of a slot, whatever they hold. -/
theorem step_peek (c : Dev nD) (b : Fin 2) (k' : Fin 4) (r : ℕ) {q : PosShare TreeShare} {f} {h}
    {hl : cM.view.LoadsAt (statR b.val k'.val r h).toLoadRect}
    {α : Type} {Q : α → sProp 𝕄} {k : Vec F S1x1x8x128 .f32 → Prog (TpuEff nD τ sig (Elt F) Λ₀ .tc) α} [FloatOps F] :
    (slotPts c b.val k'.val q f : sProp 𝕄)
      ⊢ iprop((slotPts c b.val k'.val q f -∗ runs c (k (cM.view.readAt (Elt F) (statR b.val k'.val r h).toLoadRect f)) Q)
          -∗ runs c (.op (.load cM (statR b.val k'.val r h).toLoadRect hl) k) Q) :=
  wp_load 𝒱₀ (c : Thread nD τ) none Set.univ (m := cM) (by
    rw [show cM.view.setOn (statR b.val k'.val r h).toLoadRect.set = (statR b.val k'.val r h).set from Finset.map_refl]
    exact statR_subset _ _ _ _)

omit [FloatOps F] in
/-- Storing eight rows of a slot. -/
theorem step_put (c : Dev nD) (b : Fin 2) (k' : Fin 4) (r : ℕ) {f} {h} {w : Vec F S1x1x8x128 .f32}
    {hx : (cM.access (statR b.val k'.val r h)).Stores Finset.univ} {hm}
    {α : Type} {Q : α → sProp 𝕄} {k : PUnit → Prog (TpuEff nD τ sig (Elt F) Λ₀ .tc) α} [FloatOps F] :
    (slotPts c b.val k'.val fullShare f : sProp 𝕄)
      ⊢ iprop((slotPts c b.val k'.val fullShare ((cM.access (statR b.val k'.val r h)).write (Elt F) f w Finset.univ) -∗ runs c (k ⟨⟩) Q)
          -∗ runs c (.op (.store cM (statR b.val k'.val r h) w Finset.univ hx hm) k) Q) :=
  wp_store 𝒱₀ (c : Thread nD τ) none Set.univ (m := cM) (r := statR b.val k'.val r h) (Mk := Finset.univ) (by
    rw [show (cM.access (statR b.val k'.val r h)).setOn Finset.univ = (statR b.val k'.val r h).set from View.set_slice_whole (κ := .tc) cc0_scratch1 _]
    exact statR_subset _ _ _ _)

/-- After the maxima and the sums are stored, the own slot is filled. -/
theorem slot_filled (c : Dev nD) (b : Fin 2) (h h') (f : Buf (Elt F) ((c : Thread nD τ).loc cc0_scratch1)) :
    (slotPts c b.val 0 fullShare ((cM.access (statR b.val 0 8 h')).write (Elt F)
        ((cM.access (statR b.val 0 0 h)).write (Elt F) f (k0_pay6 (xhalf m c b)) Finset.univ) (k0_pay7 (xhalf m c b)) Finset.univ) : sProp 𝕄)
      = slotPts c b.val 0 fullShare (commF m c) := by
  unfold slotPts
  exact pointsTo_congr (stored m c b h h' f)

/-- A device's staged input, whole. -/
abbrev xPts (c : Dev nD) : sProp 𝕄 := ((c : Thread nD τ).loc cc0_stg0_0) ↦{fullShare} xstg m c
/-- A device's exponentials, whole, at the contents `f`. -/
abbrev ePts (c : Dev nD) (f : Buf (Elt F) ((c : Thread nD τ).loc cc0_scratch0)) : sProp 𝕄 := ((c : Thread nD τ).loc cc0_scratch0) ↦{fullShare} f
/-- A device's staged output, whole, at the contents `f`. -/
abbrev oPts (c : Dev nD) (f : Buf (Elt F) ((c : Thread nD τ).loc cc0_stg1_0)) : sProp 𝕄 := ((c : Thread nD τ).loc cc0_stg1_0) ↦{fullShare} f

/-- Loading a half of the input. -/
theorem step_load_x (c : Dev nD) (b : Fin 2) {hl : xM.view.LoadsAt (halfR b).toLoadRect}
    {α : Type} {Q : α → sProp 𝕄} {k : Vec F S1024x1024 .f32 → Prog (TpuEff nD τ sig (Elt F) Λ₀ .tc) α} :
    (xPts m c) ⊢ iprop((xPts m c -∗ runs c (k (xhalf m c b)) Q) -∗ runs c (.op (.load xM (halfR b).toLoadRect hl) k) Q) :=
  wp_load 𝒱₀ (c : Thread nD τ) none Set.univ (m := xM) (Finset.subset_univ _)

/-- Loading a half of the exponentials, both halves stored. -/
theorem step_load_e (c : Dev nD) (b : Fin 2) (w : Fin 2 → S1024x1024.Idx → Elt F .bf16) {hl : eM.view.LoadsAt (halfR b).toLoadRect}
    {α : Type} {Q : α → sProp 𝕄} {k : Vec F S1024x1024 .bf16 → Prog (TpuEff nD τ sig (Elt F) Λ₀ .tc) α} :
    (ePts c (twoHalves w)) ⊢ iprop((ePts c (twoHalves w) -∗ runs c (k (w b)) Q) -∗ runs c (.op (.load eM (halfR b).toLoadRect hl) k) Q) := by
  suffices h : ∀ v, eM.view.readAt (Elt F) (halfR b).toLoadRect (twoHalves w) = v →
      (ePts c (twoHalves w)) ⊢ iprop((ePts c (twoHalves w) -∗ runs c (k v) Q) -∗ runs c (.op (.load eM (halfR b).toLoadRect hl) k) Q) from
    h _ (load_half w b)
  rintro _ rfl
  exact wp_load 𝒱₀ (c : Thread nD τ) none Set.univ (m := eM) (Finset.subset_univ _)

end Cert.Softmax

end
-- ==== Proof.Body.lean ====
/-
# The run of the body on one device, part by part

Each part of the kernel's body, from what the device holds before it to what it holds after it, and their composition.
-/
module

public import proofs.«01_k».proof.Proof.Steps

@[expose] public section

set_option maxRecDepth 16384

noncomputable section

namespace Cert.Softmax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Names)

/-! ## The devices addressed -/

theorem dev1_eq (c : Dev nD) : (⟨k0_dev1 c, k0_dev1_lt c⟩ : Dev nD) = fwd 0 c := by revert c; decide
theorem dev2_eq (c : Dev nD) : (⟨k0_dev2 c, k0_dev2_lt c⟩ : Dev nD) = fwd 1 c := by revert c; decide
theorem dev3_eq (c : Dev nD) : (⟨k0_dev3 c, k0_dev3_lt c⟩ : Dev nD) = fwd 2 c := by revert c; decide
theorem dev4_eq (c : Dev nD) : (⟨k0_dev4 c, k0_dev4_lt c⟩ : Dev nD) = fwd 0 c := by revert c; decide
theorem dev5_eq (c : Dev nD) : (⟨k0_dev5 c, k0_dev5_lt c⟩ : Dev nD) = fwd 1 c := by revert c; decide
theorem dev6_eq (c : Dev nD) : (⟨k0_dev6 c, k0_dev6_lt c⟩ : Dev nD) = fwd 2 c := by revert c; decide
theorem dev7_eq (c : Dev nD) : (⟨k0_dev7 c, k0_dev7_lt c⟩ : Dev nD) = fwd 0 c := by revert c; decide
theorem dev8_eq (c : Dev nD) : (⟨k0_dev8 c, k0_dev8_lt c⟩ : Dev nD) = fwd 1 c := by revert c; decide
theorem dev9_eq (c : Dev nD) : (⟨k0_dev9 c, k0_dev9_lt c⟩ : Dev nD) = fwd 2 c := by revert c; decide

/-! ## The parts -/

/-- The first two signals. -/
theorem part1 (c : Dev nD) {Q : _ → sProp 𝕄} :
    barDuty m K c 0
      ⊢ iprop(given c (Fin.rev 0) -∗ barDuty m K c 1 -∗ given c (Fin.rev 1) -∗ owesAny c (owedB c [0, 1, 2])
        -∗ (∀ a b d e, owesAny c (owedB c [2]) -∗ Q ⟨c, a, SemArray.scalar (sig.barrier 0 rfl), b, d, e⟩)
        -∗ runs c (k0_part1 (F := F) xM (Memref.isWhole_whole _) oM (Memref.isWhole_whole _) eM (Memref.isWhole_whole _) cM (Memref.isWhole_whole _)
            cc0_scratch2 cc0_scratch3) Q) := by
  iintro HB0 Hg0 HB1 Hg1 HO Hk
  rw [k0_part1_eq_skeleton]; unfold k0_part1_skel
  simp only [semSignalWord, Prog.lift, Prog.bind_op, Prog.bind_ret, Prog.pure_eq_ret, runs, wp_deviceId, dev1_eq c, dev2_eq c]
  iapply (step_signal m K c _ 0 rfl [1, 2]) $$ HB0 Hg0 HO
  iintro HO
  iapply (step_signal m K c _ 1 rfl [2]) $$ HB1 Hg1 HO
  iintro HO
  rw [runs, wp_ret]; imodintro
  iapply Hk
  iexact HO

/-- The third signal; the first half's exponentials and statistics; the barrier wait. -/
theorem part2 (c : Dev nD) (fe) (f) (v3 : Sems sig S_) (hv3 : v3 = SemArray.scalar (sig.barrier 0 rfl)) (a1 a2 : BitVec 32) (a3 : BitVec 1)
    {Q : _ → sProp 𝕄} :
    barDuty m K c 2
      ⊢ iprop(given c (Fin.rev 2) -∗ owesAny c (owedB c [2]) -∗ barTurn m K c -∗ xPts m c -∗ ePts c fe -∗ slotPts c 0 0 fullShare f
        -∗ ((owesAny c (owedT c allTr) ∗ barPay c 0 ∗ barPay c 1 ∗ barPay c 2 ∗ semVal (barCell c) 0) -∗ xPts m c
            -∗ ePts c ((eM.access (halfR b0)).write (Elt F) fe (expHalf m c b0) Finset.univ) -∗ slotPts c 0 0 fullShare (commF m c) -∗ Q ⟨⟩)
        -∗ runs c (k0_part2 (F := F) xM (Memref.isWhole_whole _) oM (Memref.isWhole_whole _) eM (Memref.isWhole_whole _) cM (Memref.isWhole_whole _)
            cc0_scratch2 cc0_scratch3 c v3 a1 a2 a3) Q) := by
  subst hv3
  iintro HB Hg HO Hbar Hx He Hs Hk
  rw [k0_part2_eq_skeleton]; unfold k0_part2_skel
  simp only [semSignalWord, semWaitWord, Prog.lift, Prog.bind_op, Prog.bind_ret, Prog.pure_eq_ret, runs, dev3_eq c]
  iapply (step_signal m K c _ 2 rfl []) $$ HB Hg HO
  iintro HO
  iapply (step_load_x m c b0) $$ Hx; iintro Hx
  iapply (wp_load 𝒱₀ (c : Thread nD τ) none Set.univ (m := eM) (Finset.subset_univ _)) $$ He; iintro He
  iapply (wp_store 𝒱₀ (c : Thread nD τ) none Set.univ (m := eM) (r := halfR b0) (Mk := Finset.univ) (Finset.subset_univ _)) $$ He; iintro He
  iapply (step_peek c b0 s0 0) $$ Hs; iintro Hs
  iapply (step_put c b0 s0 0) $$ Hs; iintro Hs
  iapply (step_peek c b0 s0 8) $$ Hs; iintro Hs
  iapply (step_put c b0 s0 8) $$ Hs; iintro Hs
  ihave Hs := (Entails.of_eq (slot_filled m c b0 _ _ f)) $$ Hs
  iapply (step_barrier m K c) $$ Hbar HO
  iintro Hpost
  rw [runs, wp_ret, show k0_pay5 (F := F) (xhalf m c b0) = expHalf m c b0 from rfl]; imodintro
  iapply Hk $$ Hpost Hx He Hs

/-- The first half's transfer to the next device. -/
theorem part3 (c : Dev nD) (w2 : BitVec 32) {Q : _ → sProp 𝕄} :
    pend m K c (b0, o0)
      ⊢ iprop(owesAny c (owedT c [(b0, o0), (b0, o1), (b0, o2), (b1, o0), (b1, o1), (b1, o2)]) -∗ slotPts c 0 0 (lent 0) (commF m c) -∗ (∃ f, slotPts (fwd o0 c) 0 1 fullShare f)
        -∗ (∀ a b, (flightS m K c (b0, o0) ∗ flightR m K c (b0, o0) ∗ owesAny c (owedT c [(b0, o1), (b0, o2), (b1, o0), (b1, o1), (b1, o2)])) -∗ Q ⟨a, b⟩)
        -∗ runs c (k0_part3 (F := F) xM (Memref.isWhole_whole _) oM (Memref.isWhole_whole _) eM (Memref.isWhole_whole _) cM (Memref.isWhole_whole _)
            cc0_scratch2 cc0_scratch3 c w2) Q) := by
  iintro Hp HO Hs Hd Hk
  rw [k0_part3_eq_skeleton]; unfold k0_part3_skel
  simp only [semSignalWord, semWaitWord, Prog.lift, Prog.bind_op, Prog.bind_ret, Prog.pure_eq_ret, runs]
  iapply (step_send m K c _ b0 o0 (dev4_eq c) _) $$ Hp HO Hs Hd
  iintro Hpost
  rw [runs, wp_ret]; imodintro
  iapply Hk
  iexact Hpost

/-- The first half's transfer to the opposite device. -/
theorem part4 (c : Dev nD) (w2 w3 : BitVec 32) {Q : _ → sProp 𝕄} :
    pend m K c (b0, o1)
      ⊢ iprop(owesAny c (owedT c [(b0, o1), (b0, o2), (b1, o0), (b1, o1), (b1, o2)]) -∗ slotPts c 0 0 (lent 1) (commF m c) -∗ (∃ f, slotPts (fwd o1 c) 0 2 fullShare f)
        -∗ (∀ a, (flightS m K c (b0, o1) ∗ flightR m K c (b0, o1) ∗ owesAny c (owedT c [(b0, o2), (b1, o0), (b1, o1), (b1, o2)])) -∗ Q a)
        -∗ runs c (k0_part4 (F := F) xM (Memref.isWhole_whole _) oM (Memref.isWhole_whole _) eM (Memref.isWhole_whole _) cM (Memref.isWhole_whole _)
            cc0_scratch2 cc0_scratch3 c w2 w3) Q) := by
  iintro Hp HO Hs Hd Hk
  rw [k0_part4_eq_skeleton]; unfold k0_part4_skel
  simp only [semSignalWord, semWaitWord, Prog.lift, Prog.bind_op, Prog.bind_ret, Prog.pure_eq_ret, runs]
  iapply (step_send m K c _ b0 o1 (dev5_eq c) _) $$ Hp HO Hs Hd
  iintro Hpost
  rw [runs, wp_ret]; imodintro
  iapply Hk
  iexact Hpost

/-- The first half's transfer to the device before; the second half's exponentials and statistics. -/
theorem part5 (c : Dev nD) (w2 : BitVec 32) (fe) (f) {Q : _ → sProp 𝕄} :
    pend m K c (b0, o2)
      ⊢ iprop(owesAny c (owedT c [(b0, o2), (b1, o0), (b1, o1), (b1, o2)]) -∗ slotPts c 0 0 (lent 2) (commF m c) -∗ (∃ f, slotPts (fwd o2 c) 0 3 fullShare f)
        -∗ xPts m c -∗ ePts c ((eM.access (halfR b0)).write (Elt F) fe (expHalf m c b0) Finset.univ) -∗ slotPts c 1 0 fullShare f
        -∗ (∀ a, (flightS m K c (b0, o2) ∗ flightR m K c (b0, o2) ∗ owesAny c (owedT c [(b1, o0), (b1, o1), (b1, o2)])) -∗ xPts m c
            -∗ ePts c (twoHalves ![expHalf m c b0, expHalf m c b1]) -∗ slotPts c 1 0 fullShare (commF m c) -∗ Q a)
        -∗ runs c (k0_part5 (F := F) xM (Memref.isWhole_whole _) oM (Memref.isWhole_whole _) eM (Memref.isWhole_whole _) cM (Memref.isWhole_whole _)
            cc0_scratch2 cc0_scratch3 c w2) Q) := by
  iintro Hp HO Hs Hd Hx He Hs1 Hk
  rw [k0_part5_eq_skeleton]; unfold k0_part5_skel
  simp only [semSignalWord, semWaitWord, Prog.lift, Prog.bind_op, Prog.bind_ret, Prog.pure_eq_ret, runs]
  iapply (step_send m K c _ b0 o2 (dev6_eq c) _) $$ Hp HO Hs Hd
  iintro Hpost
  iapply (step_load_x m c b1) $$ Hx; iintro Hx
  iapply (wp_load 𝒱₀ (c : Thread nD τ) none Set.univ (m := eM) (Finset.subset_univ _)) $$ He; iintro He
  iapply (wp_store 𝒱₀ (c : Thread nD τ) none Set.univ (m := eM) (r := halfR b1) (Mk := Finset.univ) (Finset.subset_univ _)) $$ He; iintro He
  rw [show k0_pay11 (F := F) (xhalf m c b1) = expHalf m c b1 from rfl, show k0_pay12 (F := F) (xhalf m c b1) = k0_pay6 (xhalf m c b1) from rfl,
    show k0_pay13 (F := F) (xhalf m c b1) = k0_pay7 (xhalf m c b1) from rfl]
  ihave He := (Entails.of_eq (congrArg (ePts c) (store_halves_e (expHalf m c b0) (expHalf m c b1) fe))) $$ He
  iapply (step_peek c b1 s0 0) $$ Hs1; iintro Hs1
  iapply (step_put c b1 s0 0) $$ Hs1; iintro Hs1
  iapply (step_peek c b1 s0 8) $$ Hs1; iintro Hs1
  iapply (step_put c b1 s0 8) $$ Hs1; iintro Hs1
  ihave Hs1 := (Entails.of_eq (slot_filled m c b1 _ _ f)) $$ Hs1
  rw [runs, wp_ret]; imodintro
  iapply Hk $$ Hpost Hx He Hs1

/-- The second half's transfer to the next device. -/
theorem part6 (c : Dev nD) (w2 w3 : BitVec 32) {Q : _ → sProp 𝕄} :
    pend m K c (b1, o0)
      ⊢ iprop(owesAny c (owedT c [(b1, o0), (b1, o1), (b1, o2)]) -∗ slotPts c 1 0 (lent 0) (commF m c) -∗ (∃ f, slotPts (fwd o0 c) 1 1 fullShare f)
        -∗ (∀ a, (flightS m K c (b1, o0) ∗ flightR m K c (b1, o0) ∗ owesAny c (owedT c [(b1, o1), (b1, o2)])) -∗ Q a)
        -∗ runs c (k0_part6 (F := F) xM (Memref.isWhole_whole _) oM (Memref.isWhole_whole _) eM (Memref.isWhole_whole _) cM (Memref.isWhole_whole _)
            cc0_scratch2 cc0_scratch3 c w2 w3) Q) := by
  iintro Hp HO Hs Hd Hk
  rw [k0_part6_eq_skeleton]; unfold k0_part6_skel
  simp only [semSignalWord, semWaitWord, Prog.lift, Prog.bind_op, Prog.bind_ret, Prog.pure_eq_ret, runs]
  iapply (step_send m K c _ b1 o0 (dev7_eq c) _) $$ Hp HO Hs Hd
  iintro Hpost
  rw [runs, wp_ret]; imodintro
  iapply Hk
  iexact Hpost

/-- The second half's transfers to the opposite device and to the device before. -/
theorem part7 (c : Dev nD) (w2 : BitVec 32) {Q : _ → sProp 𝕄} :
    pend m K c (b1, o1)
      ⊢ iprop(pend m K c (b1, o2) -∗ owesAny c (owedT c [(b1, o1), (b1, o2)]) -∗ slotPts c 1 0 (lent 1) (commF m c) -∗ slotPts c 1 0 (lent 2) (commF m c)
        -∗ (∃ f, slotPts (fwd o1 c) 1 2 fullShare f) -∗ (∃ f, slotPts (fwd o2 c) 1 3 fullShare f)
        -∗ (∀ a, flightS m K c (b1, o1) -∗ flightR m K c (b1, o1) -∗ flightS m K c (b1, o2) -∗ flightR m K c (b1, o2) -∗ owesAny c 0 -∗ Q a)
        -∗ runs c (k0_part7 (F := F) xM (Memref.isWhole_whole _) oM (Memref.isWhole_whole _) eM (Memref.isWhole_whole _) cM (Memref.isWhole_whole _)
            cc0_scratch2 cc0_scratch3 c w2) Q) := by
  iintro Hp Hp' HO Hs Hs' Hd Hd' Hk
  rw [k0_part7_eq_skeleton]; unfold k0_part7_skel
  simp only [semSignalWord, semWaitWord, Prog.lift, Prog.bind_op, Prog.bind_ret, Prog.pure_eq_ret, runs]
  iapply (step_send m K c _ b1 o1 (dev8_eq c) _) $$ Hp HO Hs Hd
  iintro ⟨HfS, HfR, HO⟩
  iapply (step_send m K c _ b1 o2 (dev9_eq c) _) $$ Hp' HO Hs' Hd'
  iintro ⟨HfS', HfR', HO⟩
  ihave HO := (Entails.of_eq (show owesAny (F := F) c (owedT c []) = owesAny c 0 from rfl)) $$ HO
  rw [runs, wp_ret]; imodintro
  iapply Hk $$ HfS HfR HfS' HfR' HO

/-- The first half's transfer to the next device and the one from the device before are over, and the source end of the second. -/
theorem part8 (c : Dev nD) (w2 w3 : BitVec 32) {Q : _ → sProp 𝕄} :
    flightS m K c (b0, o0)
      ⊢ iprop(flightR m K c (b0, o0) -∗ flightS m K c (b0, o1) -∗ owesAny c 0
        -∗ (slotPts c 0 0 (lent 0) (commF m c) -∗ semVal (sendCell c (b0, o0)) 0 -∗ slotPts c 0 1 fullShare (commF m c) -∗ semVal (recvCell c (b0, o0)) 0
            -∗ slotPts c 0 0 (lent 1) (commF m c) -∗ semVal (sendCell c (b0, o1)) 0 -∗ owesAny c 0 -∗ Q ⟨⟩)
        -∗ runs c (k0_part8 (F := F) xM (Memref.isWhole_whole _) oM (Memref.isWhole_whole _) eM (Memref.isWhole_whole _) cM (Memref.isWhole_whole _)
            cc0_scratch2 cc0_scratch3 w2 w3) Q) := by
  iintro Hf1 Hf2 Hf3 HO Hk
  rw [k0_part8_eq_skeleton]; unfold k0_part8_skel
  simp only [semSignalWord, semWaitWord, Prog.lift, Prog.bind_op, Prog.bind_ret, Prog.pure_eq_ret, runs]
  iapply (step_wait_send m K c b0 o0) $$ Hf1 HO; iintro ⟨HO, Ha, Hza⟩
  iapply (step_wait_recv m K c b0 o0) $$ Hf2 HO; iintro ⟨HO, Hb, Hzb⟩
  iapply (step_wait_send m K c b0 o1) $$ Hf3 HO; iintro ⟨HO, Hc, Hzc⟩
  rw [runs, wp_ret]; imodintro
  iapply Hk $$ Ha Hza Hb Hzb Hc Hzc HO

/-- The first half's other transfers are over; the maxima of the three nearest devices are read. -/
theorem part9 (c : Dev nD) (w2 : BitVec 32) (q : PosShare TreeShare) {Q : _ → sProp 𝕄} :
    flightR m K c (b0, o1)
      ⊢ iprop(flightS m K c (b0, o2) -∗ flightR m K c (b0, o2) -∗ owesAny c 0 -∗ slotPts c 0 0 q (commF m c) -∗ slotPts c 0 1 fullShare (commF m c)
        -∗ (slotPts c 0 2 fullShare (commF m c) -∗ semVal (recvCell c (b0, o1)) 0 -∗ slotPts c 0 0 (lent 2) (commF m c) -∗ semVal (sendCell c (b0, o2)) 0
            -∗ slotPts c 0 3 fullShare (commF m c) -∗ semVal (recvCell c (b0, o2)) 0 -∗ owesAny c 0 -∗ slotPts c 0 0 q (commF m c) -∗ slotPts c 0 1 fullShare (commF m c)
            -∗ Q ⟨k0_pay14 (k0_pay6 (xhalf m (home s0 c) b0)) (k0_pay6 (xhalf m (home s1 c) b0)), k0_pay15 (k0_pay6 (xhalf m (home s2 c) b0))⟩)
        -∗ runs c (k0_part9 (F := F) xM (Memref.isWhole_whole _) oM (Memref.isWhole_whole _) eM (Memref.isWhole_whole _) cM (Memref.isWhole_whole _)
            cc0_scratch2 cc0_scratch3 w2) Q) := by
  iintro Hf1 Hf2 Hf3 HO H0 H1 Hk
  rw [k0_part9_eq_skeleton]; unfold k0_part9_skel
  simp only [semSignalWord, semWaitWord, Prog.lift, Prog.bind_op, Prog.bind_ret, Prog.pure_eq_ret, runs]
  iapply (step_wait_recv m K c b0 o1) $$ Hf1 HO; iintro ⟨HO, H2, Hz2⟩
  iapply (step_wait_send m K c b0 o2) $$ Hf2 HO; iintro ⟨HO, Ha, Hza⟩
  iapply (step_wait_recv m K c b0 o2) $$ Hf3 HO; iintro ⟨HO, H3, Hz3⟩
  iapply (step_load_max m c b0 s0) $$ H0; iintro H0
  iapply (step_load_max m c b0 s1) $$ H1; iintro H1
  iapply (step_load_max m c b0 s2) $$ H2; iintro H2
  rw [runs, wp_ret]; imodintro
  iapply Hk $$ H2 Hz2 Ha Hza H3 Hz3 HO H0 H1

/-- The first half's total maximum, and the sums of the three nearest devices against it. -/
theorem part10 (c : Dev nD) (u v : FVec F S8x128 .f32) (q : PosShare TreeShare) {Q : _ → sProp 𝕄} :
    slotPts c 0 0 q (commF m c)
      ⊢ iprop(slotPts c 0 1 fullShare (commF m c) -∗ slotPts c 0 2 fullShare (commF m c) -∗ slotPts c 0 3 fullShare (commF m c)
        -∗ (slotPts c 0 0 q (commF m c) -∗ slotPts c 0 1 fullShare (commF m c) -∗ slotPts c 0 2 fullShare (commF m c) -∗ slotPts c 0 3 fullShare (commF m c)
            -∗ Q ⟨k0_pay16 u v (k0_pay6 (xhalf m (home s3 c) b0)), k0_pay17 u v (k0_pay6 (xhalf m (home s3 c) b0)) (k0_pay7 (xhalf m (home s0 c) b0)) (k0_pay6 (xhalf m (home s0 c) b0)) (k0_pay7 (xhalf m (home s1 c) b0))
              (k0_pay6 (xhalf m (home s1 c) b0)) (k0_pay7 (xhalf m (home s2 c) b0)) (k0_pay6 (xhalf m (home s2 c) b0))⟩)
        -∗ runs c (k0_part10 (F := F) xM (Memref.isWhole_whole _) oM (Memref.isWhole_whole _) eM (Memref.isWhole_whole _) cM (Memref.isWhole_whole _)
            cc0_scratch2 cc0_scratch3 u v) Q) := by
  iintro H0 H1 H2 H3 Hk
  rw [k0_part10_eq_skeleton]; unfold k0_part10_skel
  simp only [semSignalWord, semWaitWord, Prog.lift, Prog.bind_op, Prog.bind_ret, Prog.pure_eq_ret, runs]
  iapply (step_load_max m c b0 s3) $$ H3; iintro H3
  iapply (step_load_sum m c b0 s0) $$ H0; iintro H0
  iapply (step_load_max m c b0 s0) $$ H0; iintro H0
  iapply (step_load_sum m c b0 s1) $$ H1; iintro H1
  iapply (step_load_max m c b0 s1) $$ H1; iintro H1
  iapply (step_load_sum m c b0 s2) $$ H2; iintro H2
  iapply (step_load_max m c b0 s2) $$ H2; iintro H2
  rw [runs, wp_ret]; imodintro
  iapply Hk $$ H0 H1 H2 H3

/-- The first half of the result; the source end of the second half's first transfer is over. -/
theorem part11 (c : Dev nD) (u v : FVec F S8x128 .f32) (q : PosShare TreeShare) (fo) {Q : _ → sProp 𝕄} :
    slotPts c 0 0 q (commF m c)
      ⊢ iprop(slotPts c 0 3 fullShare (commF m c) -∗ ePts c (twoHalves ![expHalf m c b0, expHalf m c b1]) -∗ oPts c fo -∗ flightS m K c (b1, o0) -∗ owesAny c 0
        -∗ (slotPts c 0 0 q (commF m c) -∗ slotPts c 0 3 fullShare (commF m c) -∗ ePts c (twoHalves ![expHalf m c b0, expHalf m c b1])
            -∗ oPts c ((oM.access (halfR b0)).write (Elt F) fo (k0_pay18 u v (k0_pay7 (xhalf m (home s3 c) b0)) (k0_pay6 (xhalf m (home s3 c) b0)) (k0_pay6 (xhalf m (home s0 c) b0)) (expHalf m c b0)) Finset.univ)
            -∗ slotPts c 1 0 (lent 0) (commF m c) -∗ semVal (sendCell c (b1, o0)) 0 -∗ owesAny c 0 -∗ Q ⟨⟩)
        -∗ runs c (k0_part11 (F := F) xM (Memref.isWhole_whole _) oM (Memref.isWhole_whole _) eM (Memref.isWhole_whole _) cM (Memref.isWhole_whole _)
            cc0_scratch2 cc0_scratch3 u v) Q) := by
  iintro H0 H3 He Ho Hf HO Hk
  rw [k0_part11_eq_skeleton]; unfold k0_part11_skel
  simp only [semSignalWord, semWaitWord, Prog.lift, Prog.bind_op, Prog.bind_ret, Prog.pure_eq_ret, runs]
  iapply (step_load_sum m c b0 s3) $$ H3; iintro H3
  iapply (step_load_max m c b0 s3) $$ H3; iintro H3
  iapply (step_load_max m c b0 s0) $$ H0; iintro H0
  iapply (step_load_e c b0 ![expHalf m c b0, expHalf m c b1]) $$ He; iintro He
  iapply (wp_load 𝒱₀ (c : Thread nD τ) none Set.univ (m := oM) (Finset.subset_univ _)) $$ Ho; iintro Ho
  iapply (wp_store 𝒱₀ (c : Thread nD τ) none Set.univ (m := oM) (r := halfR b0) (Mk := Finset.univ) (Finset.subset_univ _)) $$ Ho; iintro Ho
  iapply (step_wait_send m K c b1 o0) $$ Hf HO; iintro ⟨HO, Ha, Hza⟩
  rw [runs, wp_ret, show (![expHalf m c b0, expHalf m c b1] : Fin 2 → FVec F S1024x1024 .bf16) b0 = expHalf m c b0 from rfl]; imodintro
  iapply Hk $$ H0 H3 He Ho Ha Hza HO

/-- The second half's first transfer is over, and both ends of the second. -/
theorem part12 (c : Dev nD) (w2 w3 : BitVec 32) {Q : _ → sProp 𝕄} :
    flightR m K c (b1, o0)
      ⊢ iprop(flightS m K c (b1, o1) -∗ flightR m K c (b1, o1) -∗ owesAny c 0
        -∗ (slotPts c 1 1 fullShare (commF m c) -∗ semVal (recvCell c (b1, o0)) 0 -∗ slotPts c 1 0 (lent 1) (commF m c) -∗ semVal (sendCell c (b1, o1)) 0
            -∗ slotPts c 1 2 fullShare (commF m c) -∗ semVal (recvCell c (b1, o1)) 0 -∗ owesAny c 0 -∗ Q ⟨⟩)
        -∗ runs c (k0_part12 (F := F) xM (Memref.isWhole_whole _) oM (Memref.isWhole_whole _) eM (Memref.isWhole_whole _) cM (Memref.isWhole_whole _)
            cc0_scratch2 cc0_scratch3 w2 w3) Q) := by
  iintro Hf1 Hf2 Hf3 HO Hk
  rw [k0_part12_eq_skeleton]; unfold k0_part12_skel
  simp only [semSignalWord, semWaitWord, Prog.lift, Prog.bind_op, Prog.bind_ret, Prog.pure_eq_ret, runs]
  iapply (step_wait_recv m K c b1 o0) $$ Hf1 HO; iintro ⟨HO, Ha, Hza⟩
  iapply (step_wait_send m K c b1 o1) $$ Hf2 HO; iintro ⟨HO, Hb, Hzb⟩
  iapply (step_wait_recv m K c b1 o1) $$ Hf3 HO; iintro ⟨HO, Hc, Hzc⟩
  rw [runs, wp_ret]; imodintro
  iapply Hk $$ Ha Hza Hb Hzb Hc Hzc HO

/-- The last transfer is over; the second half's total maximum. -/
theorem part13 (c : Dev nD) (w2 : BitVec 32) (q : PosShare TreeShare) {Q : _ → sProp 𝕄} :
    flightS m K c (b1, o2)
      ⊢ iprop(flightR m K c (b1, o2) -∗ owesAny c 0 -∗ slotPts c 1 0 q (commF m c) -∗ slotPts c 1 1 fullShare (commF m c) -∗ slotPts c 1 2 fullShare (commF m c)
        -∗ (slotPts c 1 0 (lent 2) (commF m c) -∗ semVal (sendCell c (b1, o2)) 0 -∗ slotPts c 1 3 fullShare (commF m c) -∗ semVal (recvCell c (b1, o2)) 0 -∗ owesAny c 0
            -∗ slotPts c 1 0 q (commF m c) -∗ slotPts c 1 1 fullShare (commF m c) -∗ slotPts c 1 2 fullShare (commF m c)
            -∗ Q (k0_pay19 (k0_pay6 (xhalf m (home s0 c) b1)) (k0_pay6 (xhalf m (home s1 c) b1)) (k0_pay6 (xhalf m (home s2 c) b1)) (k0_pay6 (xhalf m (home s3 c) b1))))
        -∗ runs c (k0_part13 (F := F) xM (Memref.isWhole_whole _) oM (Memref.isWhole_whole _) eM (Memref.isWhole_whole _) cM (Memref.isWhole_whole _)
            cc0_scratch2 cc0_scratch3 w2) Q) := by
  iintro Hf1 Hf2 HO H0 H1 H2 Hk
  rw [k0_part13_eq_skeleton]; unfold k0_part13_skel
  simp only [semSignalWord, semWaitWord, Prog.lift, Prog.bind_op, Prog.bind_ret, Prog.pure_eq_ret, runs]
  iapply (step_wait_send m K c b1 o2) $$ Hf1 HO; iintro ⟨HO, Ha, Hza⟩
  iapply (step_wait_recv m K c b1 o2) $$ Hf2 HO; iintro ⟨HO, H3, Hz3⟩
  iapply (step_load_max m c b1 s0) $$ H0; iintro H0
  iapply (step_load_max m c b1 s1) $$ H1; iintro H1
  iapply (step_load_max m c b1 s2) $$ H2; iintro H2
  iapply (step_load_max m c b1 s3) $$ H3; iintro H3
  rw [runs, wp_ret]; imodintro
  iapply Hk $$ Ha Hza H3 Hz3 HO H0 H1 H2

/-- The second half's sums of the three nearest devices against the total maximum, and the fourth's sum. -/
theorem part14 (c : Dev nD) (u : FVec F S8x128 .f32) (q : PosShare TreeShare) {Q : _ → sProp 𝕄} :
    slotPts c 1 0 q (commF m c)
      ⊢ iprop(slotPts c 1 1 fullShare (commF m c) -∗ slotPts c 1 2 fullShare (commF m c) -∗ slotPts c 1 3 fullShare (commF m c)
        -∗ (slotPts c 1 0 q (commF m c) -∗ slotPts c 1 1 fullShare (commF m c) -∗ slotPts c 1 2 fullShare (commF m c) -∗ slotPts c 1 3 fullShare (commF m c)
            -∗ Q ⟨k0_pay20 u (k0_pay7 (xhalf m (home s0 c) b1)) (k0_pay6 (xhalf m (home s0 c) b1)) (k0_pay7 (xhalf m (home s1 c) b1)) (k0_pay6 (xhalf m (home s1 c) b1)) (k0_pay7 (xhalf m (home s2 c) b1)) (k0_pay6 (xhalf m (home s2 c) b1)),
              k0_pay21 (k0_pay7 (xhalf m (home s3 c) b1))⟩)
        -∗ runs c (k0_part14 (F := F) xM (Memref.isWhole_whole _) oM (Memref.isWhole_whole _) eM (Memref.isWhole_whole _) cM (Memref.isWhole_whole _)
            cc0_scratch2 cc0_scratch3 u) Q) := by
  iintro H0 H1 H2 H3 Hk
  rw [k0_part14_eq_skeleton]; unfold k0_part14_skel
  simp only [semSignalWord, semWaitWord, Prog.lift, Prog.bind_op, Prog.bind_ret, Prog.pure_eq_ret, runs]
  iapply (step_load_sum m c b1 s0) $$ H0; iintro H0
  iapply (step_load_max m c b1 s0) $$ H0; iintro H0
  iapply (step_load_sum m c b1 s1) $$ H1; iintro H1
  iapply (step_load_max m c b1 s1) $$ H1; iintro H1
  iapply (step_load_sum m c b1 s2) $$ H2; iintro H2
  iapply (step_load_max m c b1 s2) $$ H2; iintro H2
  iapply (step_load_sum m c b1 s3) $$ H3; iintro H3
  rw [runs, wp_ret]; imodintro
  iapply Hk $$ H0 H1 H2 H3

/-! ## The whole body -/

/-- The two halves' payloads are one computation: the second half's result, as the kernel spells it, is the first half's. -/
theorem pay_half1 (a b d e sa sb sd se : Vec F S1x1x8x128 .f32) (x : Vec F S1024x1024 .bf16) :
    k0_pay1 (k0_pay19 a b d e) (k0_pay20 (k0_pay19 a b d e) sa a sb b sd d) (k0_pay21 se) e a x
      = k0_pay18 (k0_pay16 (k0_pay14 a b) (k0_pay15 d) e) (k0_pay17 (k0_pay14 a b) (k0_pay15 d) e sa a sb b sd d) se e a x := rfl

/-- A half's result from the statistics as the device finds them in its slots. -/
theorem outHalf_spelt (c : Dev nD) (b : Fin 2) :
    k0_pay18 (k0_pay16 (k0_pay14 (k0_pay6 (xhalf m (home s0 c) b)) (k0_pay6 (xhalf m (home s1 c) b))) (k0_pay15 (k0_pay6 (xhalf m (home s2 c) b))) (k0_pay6 (xhalf m (home s3 c) b)))
        (k0_pay17 (k0_pay14 (k0_pay6 (xhalf m (home s0 c) b)) (k0_pay6 (xhalf m (home s1 c) b))) (k0_pay15 (k0_pay6 (xhalf m (home s2 c) b))) (k0_pay6 (xhalf m (home s3 c) b))
          (k0_pay7 (xhalf m (home s0 c) b)) (k0_pay6 (xhalf m (home s0 c) b)) (k0_pay7 (xhalf m (home s1 c) b)) (k0_pay6 (xhalf m (home s1 c) b)) (k0_pay7 (xhalf m (home s2 c) b)) (k0_pay6 (xhalf m (home s2 c) b)))
        (k0_pay7 (xhalf m (home s3 c) b)) (k0_pay6 (xhalf m (home s3 c) b)) (k0_pay6 (xhalf m (home s0 c) b)) (expHalf m c b)
      = outHalf m c b := rfl

/-- The six transfers a device is about to start and to receive. -/
def pends (c : Dev nD) : sProp 𝕄 :=
  iprop(pend m K c (b0, o0)
    ∗ pend m K c (b0, o1)
    ∗ pend m K c (b0, o2)
    ∗ pend m K c (b1, o0)
    ∗ pend m K c (b1, o1)
    ∗ pend m K c (b1, o2))

/-- The twelve cells of the transfers of a device, closed at zero. -/
def zeros (c : Dev nD) : sProp 𝕄 :=
  iprop((semVal (sendCell c (b0, o0)) 0 ∗ semVal (recvCell c (b0, o0)) 0)
    ∗ (semVal (sendCell c (b0, o1)) 0 ∗ semVal (recvCell c (b0, o1)) 0)
    ∗ (semVal (sendCell c (b0, o2)) 0 ∗ semVal (recvCell c (b0, o2)) 0)
    ∗ (semVal (sendCell c (b1, o0)) 0 ∗ semVal (recvCell c (b1, o0)) 0)
    ∗ (semVal (sendCell c (b1, o1)) 0 ∗ semVal (recvCell c (b1, o1)) 0)
    ∗ (semVal (sendCell c (b1, o2)) 0 ∗ semVal (recvCell c (b1, o2)) 0))

/-- What a device hands to its neighbours and what it may do at the barrier. -/
def signals (c : Dev nD) : sProp 𝕄 := iprop(barDuty m K c 0 ∗ barDuty m K c 1 ∗ barDuty m K c 2 ∗ barTurn m K c)

set_option maxHeartbeats 3200000 in
/-- The body on one device: from its staged input it computes its result, its cells close at zero, it owes nothing. -/
theorem run_body (c : Dev nD) (Q : PUnit → sProp 𝕄) (fe) (fo) (fc) :
    signals m K c
      ⊢ iprop(pends m K c -∗ owesAny c (owed₀ c) -∗ xPts m c -∗ ePts c fe -∗ oPts c fo -∗ (((c : Thread nD τ).loc cc0_scratch1) ↦{fullShare} fc)
        -∗ (owesAny c 0 -∗ xPts m c -∗ (∃ f, ePts c f) -∗ oPts c (outAt m c) -∗ (∃ f, ((c : Thread nD τ).loc cc0_scratch1) ↦{fullShare} f)
            -∗ zeros c -∗ semVal (barCell c) 0 -∗ Q ⟨⟩)
        -∗ runs c (cc0_body (F := F) xM (Memref.isWhole_whole _) oM (Memref.isWhole_whole _) eM (Memref.isWhole_whole _) cM (Memref.isWhole_whole _)
            cc0_scratch2 cc0_scratch3) Q) := by
  unfold signals pends
  iintro ⟨HB0, HB1, HB2, Hbar⟩ ⟨Hp00, Hp01, Hp02, Hp10, Hp11, Hp12⟩ HO Hx He Ho Hc Hk
  ihave Hc := (Entails.of_eq (comm_slots c fc)) $$ Hc
  icases Hc with ⟨⟨Ha0, Ha1⟩, Hg0, Hg1, Hg2⟩
  rw [cc0_body_eq_skeleton]; unfold cc0_body_skel
  rw [runs, wp_bind]
  iapply (part1 m K c) $$ HB0 [Hg2] HB1 [Hg1] HO
  · unfold given; iexists fc; iexact Hg2
  · unfold given; iexists fc; iexact Hg1
  iintro %a %b %d %e HO
  dsimp only
  rw [wp_bind]
  iapply (part2 m K c fe fc _ rfl) $$ HB2 [Hg0] HO Hbar Hx He Ha0
  · unfold given; iexists fc; iexact Hg0
  unfold barPay
  iintro ⟨HO, ⟨%f0, Hd00, Hd10⟩, ⟨%f1, Hd01, Hd11⟩, ⟨%f2, Hd02, Hd12⟩, Hzb⟩ Hx He Ha0
  ihave Ha0 := (slot_lent c 0 0 (commF m c)).1 $$ Ha0
  icases Ha0 with ⟨Ha00, Ha01, Ha02⟩
  rw [wp_bind]
  iapply (part3 m K c) $$ Hp00 HO Ha00 [Hd00]
  · iexists f0; iexact Hd00
  iintro %v74 %v95 ⟨HfS00, HfR00, HO⟩
  dsimp only
  rw [wp_bind]
  iapply (part4 m K c) $$ Hp01 HO Ha01 [Hd01]
  · iexists f1; iexact Hd01
  iintro %v116 ⟨HfS01, HfR01, HO⟩
  rw [wp_bind]
  iapply (part5 m K c) $$ Hp02 HO Ha02 [Hd02] Hx He Ha1
  · iexists f2; iexact Hd02
  iintro %v158 ⟨HfS02, HfR02, HO⟩ Hx He Ha1
  ihave Ha1 := (slot_lent c 1 0 (commF m c)).1 $$ Ha1
  icases Ha1 with ⟨Ha10, Ha11, Ha12⟩
  rw [wp_bind]
  iapply (part6 m K c) $$ Hp10 HO Ha10 [Hd10]
  · iexists f0; iexact Hd10
  iintro %v179 ⟨HfS10, HfR10, HO⟩
  rw [wp_bind]
  iapply (part7 m K c) $$ Hp11 Hp12 HO Ha11 Ha12 [Hd11] [Hd12]
  · iexists f1; iexact Hd11
  · iexists f2; iexact Hd12
  iintro %v200 HfS11 HfR11 HfS12 HfR12 HO
  rw [wp_bind]
  iapply (part8 m K c) $$ HfS00 HfR00 HfS01 HO
  iintro Ha00 HzS00 Hr01 HzR00 Ha01 HzS01 HO
  rw [wp_bind]
  iapply (part9 m K c) $$ HfR01 HfS02 HfR02 HO Ha00 Hr01
  iintro Hr02 HzR01 Ha02 HzS02 Hr03 HzR02 HO Ha00 Hr01
  dsimp only
  rw [wp_bind]
  iapply (part10 m c) $$ Ha00 Hr01 Hr02 Hr03
  iintro Ha00 Hr01 Hr02 Hr03
  dsimp only
  rw [wp_bind]
  iapply (part11 m K c) $$ Ha00 Hr03 He Ho HfS10 HO
  iintro Ha00 Hr03 He Ho Ha10 HzS10 HO
  rw [wp_bind]
  iapply (part12 m K c) $$ HfR10 HfS11 HfR11 HO
  iintro Hr11 HzR10 Ha11 HzS11 Hr12 HzR11 HO
  rw [wp_bind]
  iapply (part13 m K c) $$ HfS12 HfR12 HO Ha10 Hr11 Hr12
  iintro Ha12 HzS12 H3 HzR12 HO H0 Hr11 Hr12
  rw [wp_bind]
  iapply (part14 m c) $$ H0 Hr11 Hr12 H3
  iintro H0 Hr11 Hr12 H3
  dsimp only
  simp only [Prog.lift, Prog.bind_op, Prog.bind_ret, Prog.pure_eq_ret]
  iapply (step_load_max m c b1 s3) $$ H3; iintro H3
  iapply (step_load_max m c b1 s0) $$ H0; iintro H0
  iapply (step_load_e c b1 ![expHalf m c b0, expHalf m c b1]) $$ He; iintro He
  iapply (wp_load 𝒱₀ (c : Thread nD τ) none Set.univ (m := oM) (Finset.subset_univ _)) $$ Ho; iintro Ho
  iapply (wp_store 𝒱₀ (c : Thread nD τ) none Set.univ (m := oM) (r := halfR b1) (Mk := Finset.univ) (Finset.subset_univ _)) $$ Ho; iintro Ho
  rw [wp_ret]; imodintro
  rw [show (![expHalf m c b0, expHalf m c b1] : Fin 2 → FVec F S1024x1024 .bf16) b1 = expHalf m c b1 from rfl, pay_half1, outHalf_spelt, outHalf_spelt]
  ihave Ho := (Entails.of_eq (congrArg (oPts c) (store_halves_o (outHalf m c b0) (outHalf m c b1) fo))) $$ Ho
  ihave Ha0 := (slot_lent c 0 0 (commF m c)).2 $$ [Ha00 Ha01 Ha02]
  · isplitl [Ha00]; · iexact Ha00
    isplitl [Ha01] <;> iassumption
  ihave Ha1 := (slot_lent c 1 0 (commF m c)).2 $$ [H0 Ha11 Ha12]
  · isplitl [H0]; · iexact H0
    isplitl [Ha11] <;> iassumption
  iapply Hk $$ HO Hx [He] [Ho] [Ha0 Ha1 Hr01 Hr02 Hr03 Hr11 Hr12 H3] [HzS00 HzR00 HzS01 HzR01 HzS02 HzR02 HzS10 HzR10 HzS11 HzR11 HzS12 HzR12] Hzb
  · iexists _; iexact He
  · unfold outAt; iexact Ho
  · iexists (commF m c)
    iapply (Entails.of_eq (comm_slots c (commF m c)).symm)
    isplitl [Ha0 Ha1]; · isplitl [Ha0] <;> iassumption
    isplitl [Hr01 Hr11]; · isplitl [Hr01] <;> iassumption
    isplitl [Hr02 Hr12]; · isplitl [Hr02] <;> iassumption
    isplitl [Hr03] <;> iassumption
  · unfold zeros
    isplitl [HzS00 HzR00]; · isplitl [HzS00] <;> iassumption
    isplitl [HzS01 HzR01]; · isplitl [HzS01] <;> iassumption
    isplitl [HzS02 HzR02]; · isplitl [HzS02] <;> iassumption
    isplitl [HzS10 HzR10]; · isplitl [HzS10] <;> iassumption
    isplitl [HzS11 HzR11]; · isplitl [HzS11] <;> iassumption
    isplitl [HzS12] <;> iassumption

end Cert.Softmax

end
-- ==== Proof.Deal.lean ====
/-
# What the launch deals each device

The launch mints, per device, the thirteen cells' states, positions and tokens. The tokens go round the ring: the three
of a barrier cell to the three devices that raise it, that of a receive cell to the device whose transfer it counts.
The credit of a cell is what the devices owe it together. The last theorem turns a device's part into what its body
starts from.
-/
module

public import proofs.«01_k».proof.Proof.Body

@[expose] public section

set_option maxRecDepth 16384

noncomputable section

namespace Cert.Softmax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells and the tokens, listed -/

/-- The cells of a device by name: the barrier, then the send and the receive cells. -/
abbrev Cell : Type := Unit ⊕ (Tr ⊕ Tr)
/-- The tokens of a device's cells: three of the barrier, one of each other cell. -/
abbrev Tok : Type := Fin 3 ⊕ (Tr ⊕ Tr)

theorem csem_injective : Function.Injective csem := by
  have h : ∀ a b : Cell, csem a = csem b → a = b := by decide
  exact fun a b => h a b

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- The cell a token belongs to. -/
def tokCell : Tok → Cell := Sum.elim (fun _ => .inl ()) .inr
/-- The duty a token is for. -/
def tokDuty : Tok → Fin 3 := Sum.elim id (fun _ => 0)

theorem tok_split : Function.Injective fun j : Tok => (tokCell j, tokDuty j) := by
  rintro (d | k) (d' | k') h
  · exact congrArg Sum.inl (congrArg Prod.snd h)
  · exact absurd (congrArg Prod.fst h) Sum.inl_ne_inr
  · exact absurd (congrArg Prod.fst h) Sum.inr_ne_inl
  · exact congrArg Sum.inr (Sum.inr.inj (congrArg Prod.fst h))

abbrev tokOf (cj : Dev nD × Tok) : GSem nD τ sig × ℕ × Fin 3 := (kcell (cj.1, tokCell cj.2), 0, tokDuty cj.2)

theorem tokOf_injective : Function.Injective tokOf := by
  rintro ⟨c, j⟩ ⟨c', j'⟩ h
  have h1 := kcell_injective (congrArg (fun x : GSem nD τ sig × ℕ × Fin 3 => x.1) h)
  have h2 : tokDuty j = tokDuty j' := congrArg (fun x : GSem nD τ sig × ℕ × Fin 3 => x.2.2) h
  have h3 : j = j' := tok_split (Prod.ext (congrArg Prod.snd h1) h2)
  rw [show c = c' from congrArg Prod.fst h1, h3]

def allCells : Finset (GSem nD τ sig) := Finset.univ.map ⟨kcell, kcell_injective⟩
def allToks : Finset (GSem nD τ sig × ℕ × Fin 3) := Finset.univ.map ⟨tokOf, tokOf_injective⟩

/-- The launch's ghost element: the staging pipeline's part and the exchange's. -/
def u₀ : UU := (initOf (Pipeline.cells cfgs cellOf_inj) (Pipeline.launchToks cfgs cellOf_inj), initOf allCells allToks)

/-! ## A device's part before and after the dealing -/

/-- The tokens of device `c`'s own cells. -/
def minted (c : Dev nD) : sProp 𝕄 := bigSep Finset.univ fun j : Tok => dutyTok ER (kcell (c, tokCell j)) 0 (tokDuty j)

/-- What the launch mints for device `c`. -/
def G (c : Dev nD) : sProp 𝕄 :=
  iprop((bigSep Finset.univ fun k : Cell => roundState ER (sched m) (kcell (c, k)) 0)
    ∗ ((bigSep Finset.univ fun k : Cell => atPos ER (kcell (c, k)) 0 ∅ 0) ∗ (bigSep Finset.univ fun k : Cell => reached ER (kcell (c, k)) 0))
    ∗ minted c)

/-- What every device may use for good: the cells' invariants and that their first round is reached. -/
def records (K : Names) : sProp 𝕄 :=
  iprop((bigSep Finset.univ fun ck : Dev nD × Cell => cellInv ER (sched m) (K ck) (kcell ck))
    ∗ bigSep Finset.univ fun ck : Dev nD × Cell => reached ER (kcell ck) 0)

instance records_persistent (K : Names) : BI.Persistent (records m K) := by unfold records; infer_instance

/-- The tokens device `c` pays with. -/
def payToks (c : Dev nD) : sProp 𝕄 :=
  iprop((bigSep Finset.univ fun o : Fin 3 => dutyTok ER (barCell (fwd o c)) 0 o.rev)
    ∗ (bigSep Finset.univ fun t : Tr => dutyTok ER (sendCell c t) 0 0)
    ∗ bigSep Finset.univ fun t : Tr => dutyTok ER (recvCell (fwd t.2 c) t) 0 0)

/-- What device `c` alone holds: its positions and the tokens it pays with. -/
def alone (c : Dev nD) : sProp 𝕄 := iprop((bigSep Finset.univ fun k : Cell => atPos ER (kcell (c, k)) 0 ∅ 0) ∗ payToks c)

/-- Device `c`'s part after the dealing. -/
def G' (c : Dev nD) : sProp 𝕄 := iprop(∃ K, records m K ∗ alone c)

omit [FloatOps F] in
theorem bigSep_cells (Φ : Cell → sProp 𝕄) : bigSep Finset.univ Φ
    = iprop(Φ (.inl ()) ∗ (bigSep Finset.univ fun t : Tr => Φ (.inr (.inl t))) ∗ bigSep Finset.univ fun t : Tr => Φ (.inr (.inr t))) := by
  rw [bigSep_univ_sum, bigSep_univ_sum, bigSep_univ_of_subsingleton ()]
  rfl

/-- The element splits into every device's part. -/
theorem mint : BI.own (ER (initOf allCells allToks)) ⊢ (|==> bigSep Finset.univ (G m) : sProp 𝕄) := by
  have hc (Φ : GSem nD τ sig → sProp 𝕄) : bigSep allCells Φ = bigSep Finset.univ fun c : Dev nD => bigSep Finset.univ fun k : Cell => Φ (kcell (c, k)) := by
    unfold allCells; rw [bigSep_map, bigSep_univ_prod]; rfl
  have ht : bigSep allToks (fun x => (dutyTok ER x.1 x.2.1 x.2.2 : sProp 𝕄)) = bigSep Finset.univ fun c : Dev nD => minted c := by
    unfold allToks minted; rw [bigSep_map, bigSep_univ_prod]; rfl
  iintro H
  imod (Rounds.fund ER (sched m) allCells allToks) $$ H with ⟨Hst, Hr, Hat, Htok⟩
  imodintro
  ihave Hst := (Entails.of_eq (hc fun g => roundState ER (sched m) g 0)) $$ Hst
  ihave Hat := (Entails.of_eq (hc fun g => atPos ER g 0 ∅ 0)) $$ Hat
  ihave Hr := (Entails.of_eq (hc fun g => reached ER g 0)) $$ Hr
  ihave Htok := (Entails.of_eq ht) $$ Htok
  unfold G
  rw [bigSep_sep', bigSep_sep', bigSep_sep']
  isplitl [Hst]; · iexact Hst
  isplitl [Hat Hr]
  · isplitl [Hat] <;> iassumption
  iexact Htok

/-! ## The tokens go round -/

/-- A barrier token of distance `o` on the device ahead is the one the far device calls by the way back. -/
def barRound : Dev nD × Fin 3 ≃ Dev nD × Fin 3 where
  toFun x := (fwd x.2 x.1, x.2.rev)
  invFun x := (fwd x.2 x.1, x.2.rev)
  left_inv := by
    have h : ∀ x : Dev nD × Fin 3, (fwd x.2.rev (fwd x.2 x.1), x.2.rev.rev) = x := by decide
    exact h
  right_inv := by
    have h : ∀ x : Dev nD × Fin 3, (fwd x.2.rev (fwd x.2 x.1), x.2.rev.rev) = x := by decide
    exact h

/-- The receive cell a transfer counts on. -/
def recvRound : Dev nD × Tr ≃ Dev nD × Tr where
  toFun x := (fwd x.2.2 x.1, x.2)
  invFun x := (bwd x.2.2 x.1, x.2)
  left_inv x := Prod.ext (bwd_fwd _ _) rfl
  right_inv x := Prod.ext (fwd_bwd _ _) rfl

omit [FloatOps F] in
theorem toks_round : (bigSep Finset.univ fun c : Dev nD => (minted c : sProp 𝕄)) = bigSep Finset.univ fun c : Dev nD => payToks c := by
  have h1 : (bigSep Finset.univ fun c : Dev nD => bigSep Finset.univ fun d : Fin 3 => (dutyTok ER (barCell c) 0 d : sProp 𝕄))
      = bigSep Finset.univ fun c : Dev nD => bigSep Finset.univ fun o : Fin 3 => dutyTok ER (barCell (fwd o c)) 0 o.rev := by
    rw [← bigSep_univ_prod (fun x : Dev nD × Fin 3 => (dutyTok ER (barCell x.1) 0 x.2 : sProp 𝕄)),
      bigSep_univ_equiv barRound, bigSep_univ_prod]; rfl
  have h2 : (bigSep Finset.univ fun c : Dev nD => bigSep Finset.univ fun t : Tr => (dutyTok ER (recvCell c t) 0 0 : sProp 𝕄))
      = bigSep Finset.univ fun c : Dev nD => bigSep Finset.univ fun t : Tr => dutyTok ER (recvCell (fwd t.2 c) t) 0 0 := by
    rw [← bigSep_univ_prod (fun x : Dev nD × Tr => (dutyTok ER (recvCell x.1 x.2) 0 0 : sProp 𝕄)),
      bigSep_univ_equiv recvRound, bigSep_univ_prod]; rfl
  have h0 (c : Dev nD) : (minted c : sProp 𝕄) = iprop((bigSep Finset.univ fun d : Fin 3 => dutyTok ER (barCell c) 0 d)
      ∗ (bigSep Finset.univ fun t : Tr => dutyTok ER (sendCell c t) 0 0) ∗ bigSep Finset.univ fun t : Tr => dutyTok ER (recvCell c t) 0 0) := by
    unfold minted; rw [bigSep_univ_sum, bigSep_univ_sum]; rfl
  unfold payToks
  rw [bigSep_congr fun c _ => h0 c, bigSep_sep', bigSep_sep', bigSep_sep', bigSep_sep', h1, h2]

/-! ## The cells open -/

omit [FloatOps F] in
/-- The counters a device starts with, cell by cell. -/
theorem counters (c : Dev nD) :
    iprop(Pipeline.ownSems0 (Ix := Unit) (Name := ℕ) (U := UU) (Lvl := ℕ) (Val := Elt F) (τ := τ) osem c ∗ unscopedSems0 c)
      ⊢ (bigSep Finset.univ fun k : Cell => semVal (kcell (c, k)) 0 : sProp 𝕄) := by
  have hu : (unscopedSems0 c : sProp 𝕄) = semVal (barCell c) 0 := by
    unfold unscopedSems0; rw [bigSep_eq_bigSepL_of_eq [SemLoc.reg barS] (by decide) (by decide)]; rfl
  rw [hu, bigSep_univ_sum (fun k : Cell => (semVal (kcell (c, k)) 0 : sProp 𝕄)), bigSep_univ_of_subsingleton ()]
  unfold Pipeline.ownSems0
  show _ ⊢ iprop(semVal (barCell c) 0 ∗ _)
  iintro ⟨Ho, Hu⟩
  isplitl [Hu]; · iexact Hu
  iexact Ho

/-- A device's counters at zero and its cells' states make its cells' invariants. -/
theorem open_cells (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Cell => iprop(∃ κ : ℕ, cellInv ER (sched m) κ (kcell (c, k))))
          ∗ ((bigSep Finset.univ fun k : Cell => atPos ER (kcell (c, k)) 0 ∅ 0) ∗ (bigSep Finset.univ fun k : Cell => reached ER (kcell (c, k)) 0))
          ∗ minted c) := by
  have hopen : iprop((bigSep Finset.univ fun k : Cell => semVal (kcell (c, k)) 0) ∗ bigSep Finset.univ fun k : Cell => roundState ER (sched m) (kcell (c, k)) 0)
      ⊢ (|={Set.univ}=> bigSep Finset.univ fun k : Cell => iprop(∃ κ : ℕ, cellInv ER (sched m) κ (kcell (c, k))) : sProp 𝕄) := by
    rw [← bigSep_sep']
    exact (bigSep_mono fun k _ => (Rounds.body_intro ER (sched m) (kcell (c, k))).trans inv_alloc).trans (bigSep_fupd _ _)
  unfold G
  iintro ⟨Ho, Hu, Hst, Hrest⟩
  ihave Hv := (counters (F := F) c) $$ [Ho Hu]
  · isplitl [Ho] <;> iassumption
  imod hopen $$ [Hv Hst] with Hinv
  · isplitl [Hv] <;> iassumption
  imodintro
  isplitl [Hinv] <;> iassumption

/-- A family beside a fact that may be used for good: member by member with the fact. -/
theorem beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All devices' parts together: the names are chosen once, the tokens go round. -/
theorem deal :
    (bigSep Finset.univ fun c : Dev nD => iprop((bigSep Finset.univ fun k : Cell => iprop(∃ κ : ℕ, cellInv ER (sched m) κ (kcell (c, k))))
          ∗ ((bigSep Finset.univ fun k : Cell => atPos ER (kcell (c, k)) 0 ∅ 0) ∗ (bigSep Finset.univ fun k : Cell => reached ER (kcell (c, k)) 0))
          ∗ minted c) : sProp 𝕄)
      ⊢ bigSep Finset.univ (G' m) := by
  rw [bigSep_sep', bigSep_sep', bigSep_sep', toks_round,
    ← bigSep_univ_prod (fun ck : Dev nD × Cell => iprop(∃ κ : ℕ, cellInv ER (sched m) κ (kcell ck))),
    ← bigSep_univ_prod (fun ck : Dev nD × Cell => (reached ER (kcell ck) 0 : sProp 𝕄))]
  iintro ⟨HI, ⟨Hat, #HR⟩, Htok⟩
  ihave HK := (BI.bigSep_exists_pi Finset.univ (fun (ck : Dev nD × Cell) (κ : ℕ) => (cellInv ER (sched m) κ (kcell ck) : sProp 𝕄))) $$ HI
  icases HK with ⟨%K, #HI⟩
  have hone : ∀ c ∈ (Finset.univ : Finset (Dev nD)), iprop(records m K ∗ alone c) ⊢ G' m c := by
    intro c _
    unfold G'
    iintro H
    iexists K; iexact H
  iapply (beside hone)
  isplitr
  · unfold records; isplitl; · iexact HI
    iexact HR
  · unfold alone
    rw [bigSep_sep']
    isplitl [Hat] <;> iassumption

/-- The counters and the parts of every device at once become the dealt parts. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => open_cells m c).trans (bigSep_fupd _ _)).trans (BI.fupd_mono (deal m))

/-! ## The credit of a cell -/

theorem recvS_injective : Function.Injective recvS := by
  have h : ∀ a b : Tr, recvS a = recvS b → a = b := by decide
  exact fun a b => h a b
theorem barCell_inj {a b : Dev nD} : barCell a = barCell b ↔ a = b :=
  ⟨fun h => congrArg (fun g : GSem nD τ sig => g.1.1) h, fun h => h ▸ rfl⟩
theorem recvCell_inj {a b : Dev nD} {t t' : Tr} : recvCell a t = recvCell b t' ↔ a = b ∧ t = t' :=
  ⟨fun h => ⟨congrArg (fun g : GSem nD τ sig => g.1.1) h, recvS_injective (SemLoc.dma.inj (congrArg Prod.snd h))⟩, fun h => h.1 ▸ h.2 ▸ rfl⟩
theorem bar_ne_recv (a b : Dev nD) (t : Tr) : barCell a ≠ recvCell b t := fun h => by cases congrArg Prod.snd h

/-- What a device owes a barrier cell: a unit if the cell is of a device it signals. -/
theorem owed_bar (d c : Dev nD) : owed₀ d (barCell c) () = ∑ o : Fin 3, if fwd o d = c then 1 else 0 := by
  have hT : ∀ l, owedT d l (barCell c) () = 0 := fun l => by
    by_contra h
    obtain ⟨e, t, he⟩ := owedT_pos (Nat.pos_of_ne_zero h)
    exact bar_ne_recv _ _ _ he
  have hB : ∀ o, (tallyAt (barCell (fwd o d)) () 1 : CellTallies nD τ sig Unit) (barCell c) () = if fwd o d = c then 1 else 0 := fun o => by
    rw [tallyAt_apply]
    exact if_congr ⟨fun h => (barCell_inj.mp h.1).symm, fun h => ⟨h ▸ rfl, rfl⟩⟩ rfl rfl
  unfold owed₀ owedB owedB owedB owedB
  rw [Pi.add_apply, Finsupp.add_apply, Pi.add_apply, Finsupp.add_apply, Pi.add_apply, Finsupp.add_apply, hT, hB, hB, hB, Fin.sum_univ_three]
  omega

/-- What a device owes a receive cell: a slot's credit if its transfer lands there. -/
theorem owed_recv (d c : Dev nD) (t : Tr) : owed₀ d (recvCell c t) () = if d = bwd t.2 c then N else 0 := by
  have hB : ∀ o, (tallyAt (barCell (fwd o d)) () 1 : CellTallies nD τ sig Unit) (recvCell c t) () = 0 := fun o => by
    rw [tallyAt_apply]; exact if_neg fun h => bar_ne_recv _ _ _ h.1.symm
  have hR : ∀ t' : Tr, (tallyAt (recvCell (fwd t'.2 d) t') () N : CellTallies nD τ sig Unit) (recvCell c t) ()
      = if t = t' then (if d = bwd t.2 c then N else 0) else 0 := fun t' => by
    rw [tallyAt_apply]
    by_cases ht : t = t'
    · subst ht
      rw [if_pos rfl]
      refine if_congr ⟨fun h => ?_, fun h => ?_⟩ rfl rfl
      · rw [(recvCell_inj.mp h.1).1, bwd_fwd]
      · rw [h, fwd_bwd]; exact ⟨rfl, rfl⟩
    · rw [if_neg ht]; exact if_neg fun h => ht (recvCell_inj.mp h.1).2
  have hsum : ∀ l : List Tr, owedT d l (recvCell c t) () = (l.map fun t' => if t = t' then (if d = bwd t.2 c then N else 0) else 0).sum := fun l => by
    induction l with
    | nil => rfl
    | cons a l ih =>
      unfold owedT
      rw [Pi.add_apply, Finsupp.add_apply, ih, hR, List.map_cons, List.sum_cons, Nat.add_comm]
  unfold owed₀ owedB owedB owedB owedB
  rw [Pi.add_apply, Finsupp.add_apply, Pi.add_apply, Finsupp.add_apply, Pi.add_apply, Finsupp.add_apply, hB, hB, hB, hsum]
  generalize (if d = bwd t.2 c then N else 0) = n
  obtain ⟨b, o⟩ := t
  have hall : ∀ t : Tr, (allTr.map fun t' => if t = t' then n else 0).sum = n := by
    rintro ⟨b, o⟩
    fin_cases b <;> fin_cases o <;> simp +decide
  rw [hall]
  rfl

theorem credit_bar (c : Dev nD) :
    tallyOn (barCell c) (launchCredit (Pipeline.owing owed₀) 0 (barCell c)) = (tallyAt (barCell c) () 3 : CellTallies nD τ sig Unit) := by
  have h : ∀ c : Dev nD, (∑ d : Dev nD, ∑ o : Fin 3, if fwd o d = c then 1 else 0) = 3 := by decide
  unfold tallyAt; refine congrArg _ (Finsupp.ext fun u => ?_); cases u
  rw [Pipeline.launchCredit_owing, Finsupp.single_eq_same, Finset.sum_congr rfl fun d _ => owed_bar d c, h]

theorem credit_recv (c : Dev nD) (t : Tr) :
    tallyOn (recvCell c t) (launchCredit (Pipeline.owing owed₀) 0 (recvCell c t)) = (tallyAt (recvCell c t) () N : CellTallies nD τ sig Unit) := by
  unfold tallyAt; refine congrArg _ (Finsupp.ext fun u => ?_); cases u
  rw [Pipeline.launchCredit_owing, Finsupp.single_eq_same, Finset.sum_congr rfl fun d _ => owed_recv d c t,
    Finset.sum_ite_eq' Finset.univ (bwd t.2 c) fun _ => N, if_pos (Finset.mem_univ _)]

omit [FloatOps F] in
/-- A device's launch credit: three units of its barrier, a slot's credit of each of its receive cells. -/
theorem credits (c : Dev nD) :
    (Pipeline.launchCred owed₀ c : sProp 𝕄) ⊢ iprop(cred (tallyAt (barCell c) () 3) ∗ bigSep Finset.univ fun t : Tr => cred (tallyAt (recvCell c t) () N)) := by
  have hsub : (Finset.univ.map ⟨fun t : Tr => (SemLoc.dma (recvS t) : SemLoc sig), fun a b h => recvS_injective (SemLoc.dma.inj h)⟩)
      ⊆ Finset.univ.erase (SemLoc.reg barS) := fun x hx => by
    obtain ⟨t, ht⟩ := Finset.mem_map.mp hx
    rw [← ht.2]
    exact Finset.mem_erase.mpr ⟨fun h => (by cases h), Finset.mem_univ _⟩
  unfold Pipeline.launchCred
  rw [bigSep_univ_at _ (SemLoc.reg barS), credit_bar]
  refine sep_mono_right ((bigSep_subset hsub).trans ?_)
  rw [bigSep_map]
  exact bigSep_mono fun t _ => Entails.of_eq (congrArg cred (credit_recv c t))

/-! ## What the body starts from -/

/-- The part of device `c` with its credit and the levels of the cells. -/
def start (c : Dev nD) : sProp 𝕄 :=
  iprop(G' m c ∗ (cred (tallyAt (barCell c) () 3) ∗ bigSep Finset.univ fun t : Tr => cred (tallyAt (recvCell c t) () N)) ∗ levAts L lv)

theorem inv_at (K : Names) (ck : Dev nD × Cell) : records m K ⊢ cellInv ER (sched m) (K ck) (kcell ck) := by
  unfold records
  exact (sep_elim_left).trans (bigSep_elim (Finset.mem_univ ck))
theorem reached_at (K : Names) (ck : Dev nD × Cell) : records m K ⊢ (reached ER (kcell ck) 0 : sProp 𝕄) := by
  unfold records
  exact (sep_elim_right).trans (bigSep_elim (Finset.mem_univ ck))

/-- A device's part is what its signals, its barrier wait and its transfers ask for. -/
theorem start_body (c : Dev nD) : start m c ⊢ iprop(∃ K, signals m K c ∗ pends m K c) := by
  unfold start G' alone payToks
  iintro ⟨⟨%K, #HR, Hat, Hb, Hs, Hr⟩, ⟨HcB, HcR⟩, #Hlev⟩
  iexists K
  ihave Hat := (Entails.of_eq (bigSep_cells (F := F) fun k => atPos ER (kcell (c, k)) 0 ∅ 0)) $$ Hat
  icases Hat with ⟨HaB, HaS, HaR⟩
  have hduty : ∀ o ∈ (Finset.univ : Finset (Fin 3)), iprop(records m K ∗ dutyTok ER (barCell (fwd o c)) 0 o.rev) ⊢ barDuty m K c o := fun o _ => by
    unfold barDuty
    iintro ⟨#HR, Ht⟩
    isplitr; · iapply (inv_at m K (fwd o c, .inl ())); iexact HR
    isplitr; · iapply (reached_at m K (fwd o c, .inl ())); iexact HR
    iexact Ht
  have hpend : ∀ t ∈ (Finset.univ : Finset Tr), iprop(records m K ∗ dutyTok ER (sendCell c t) 0 0 ∗ dutyTok ER (recvCell (fwd t.2 c) t) 0 0
      ∗ atPos ER (sendCell c t) 0 ∅ 0 ∗ atPos ER (recvCell c t) 0 ∅ 0 ∗ cred (tallyAt (recvCell c t) () N)) ⊢ pend m K c t := fun t _ => by
    unfold pend
    iintro ⟨#HR, Ht⟩
    isplitr; · iapply (inv_at m K (c, .inr (.inl t))); iexact HR
    isplitr; · iapply (inv_at m K (c, .inr (.inr t))); iexact HR
    isplitr; · iapply (inv_at m K (fwd t.2 c, .inr (.inr t))); iexact HR
    isplitr; · iapply (reached_at m K (c, .inr (.inl t))); iexact HR
    isplitr; · iapply (reached_at m K (fwd t.2 c, .inr (.inr t))); iexact HR
    iexact Ht
  isplitl [Hb HcB HaB]
  · unfold signals
    ihave Hb := (beside hduty) $$ [Hb]
    · isplitr; · iexact HR
      iexact Hb
    have hthree : (bigSep Finset.univ fun o : Fin 3 => barDuty m K c o) = iprop(barDuty m K c 0 ∗ barDuty m K c 1 ∗ barDuty m K c 2) := by
      rw [bigSep_univ_eq_bigSepL [(0 : Fin 3), 1, 2] (by decide) (by decide), bigSepL_cons_cons, bigSepL_cons_cons, bigSepL_singleton]
      rfl
    ihave Hb := (Entails.of_eq hthree) $$ Hb
    icases Hb with ⟨H0, H1, H2⟩
    isplitl [H0]; · iexact H0
    isplitl [H1]; · iexact H1
    isplitl [H2]; · iexact H2
    unfold barTurn
    isplitr; · iapply (inv_at m K (c, .inl ())); iexact HR
    isplitr; · iexact Hlev
    isplitl [HcB]; · iexact HcB
    iexact HaB
  · have hall : pends m K c = bigSep Finset.univ fun t : Tr => pend m K c t := by
      rw [bigSep_univ_eq_bigSepL allTr (by decide) (by decide)]; rfl
    rw [hall]
    iapply (beside hpend)
    isplitr; · iexact HR
    rw [bigSep_sep', bigSep_sep', bigSep_sep', bigSep_sep']
    isplitl [Hs]; · iexact Hs
    isplitl [Hr]; · iexact Hr
    isplitl [HaS]; · iexact HaS
    isplitl [HaR]; · iexact HaR
    iexact HcR

omit [FloatOps F] in
/-- The closed cells are the counters the launch wants back at zero. -/
theorem zeros_counters (c : Dev nD) : (zeros c : sProp 𝕄) = Pipeline.ownSems0 osem c := by
  have h : (zeros c : sProp 𝕄) = bigSep Finset.univ fun t : Tr => iprop(semVal (sendCell c t) 0 ∗ semVal (recvCell c t) 0) := by
    rw [bigSep_univ_eq_bigSepL allTr (by decide) (by decide)]; rfl
  rw [h, bigSep_sep']
  unfold Pipeline.ownSems0
  rw [bigSep_univ_sum]
  rfl

end Cert.Softmax

end
-- ==== Proof.Run.lean ====
/-
# The run

From any memory, with every counter at zero, the four devices run to the end: each device's result is `outAt`, its
argument is unchanged, and every counter reads zero again. Stated for any float values.
-/
module

public import proofs.«01_k».proof.Proof.Deal
public import proofs.«01_k».proof.Proof.Gen.KernelIdeal.Points
public import Idealize.ShloMosaic.Lib.Pipeline.CollectiveSegs
public import Idealize.ShloMosaic.Lib.Pipeline.ValueKit

@[expose] public section

set_option maxRecDepth 16384

noncomputable section

namespace Cert.Softmax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The state the run starts from. -/
abbrev init : MemSt nD τ sig (Elt F) := ⟨m, fun _ => 0, ρ⟩

/-- A device's two scratch buffers, whole. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- Before the body: the dealt part and the scratch buffers. -/
def before (c : Dev nD) : sProp 𝕄 := iprop(start m c ∗ scratch c)
/-- After it: the scratch buffers and the thirteen counters at zero. -/
def behind (c : Dev nD) : sProp 𝕄 := iprop(scratch c ∗ zeros c ∗ semVal (barCell c) 0)

/-- The one region's data: its windows' contents, what it keeps besides, what it owes. -/
def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => before m c
    | ⟨_ + 1, _⟩ => behind c
  q _ := fullShare
  owed t := match t with
    | ⟨0, _⟩ => owed₀ c
    | ⟨_ + 1, _⟩ => 0

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer of `c`, whole, holding `X`. -/
abbrev holds (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- What the region gives the body. -/
def bodyPre (c : Dev nD) : sProp 𝕄 :=
  iprop(before m c ∗ (dats m 0 c).owesAt () t0_0.castSucc
    ∗ (∃ d, holds c cc0_stg0_0 ((dats m 0 c).before (0 : Fin 2) t0_0 d))
    ∗ (∃ d, holds c cc0_stg1_0 ((dats m 0 c).before (1 : Fin 2) t0_0 d)))
/-- What it wants back. -/
def bodyPost (c : Dev nD) : sProp 𝕄 :=
  iprop(behind c ∗ (dats m 0 c).owesAt () t0_0.succ ∗ holds c cc0_stg0_0 (xstg m c) ∗ holds c cc0_stg1_0 (outAt m c))

/-- The body takes what the region gives to what it wants back. -/
theorem body_meets (c : Dev nD) :
    bodyPre m c ⊢ runs c (cc0_body (F := F) xM (Memref.isWhole_whole _) oM (Memref.isWhole_whole _) eM (Memref.isWhole_whole _) cM (Memref.isWhole_whole _)
            cc0_scratch2 cc0_scratch3) (fun _ => bodyPost m c) := by
  unfold bodyPre before scratch Dat.owesAt Pipeline.owesWithin
  iintro ⟨⟨Hst, ⟨%fe, He⟩, ⟨%fc, Hc⟩⟩, ⟨%W, %hW, HO⟩, ⟨%d0, %g0, %hg0, Hx⟩, ⟨%d1, %g1, %hg1, Ho⟩⟩
  have hx : g0 = xstg m c := by rw [hg0]; unfold Dat.before; rw [if_pos (fetch0_0 t0_0)]; rfl
  subst hx
  ihave Hst := (start_body m c) $$ Hst
  icases Hst with ⟨%K, Hsig, Hpend⟩
  iapply (run_body m K c (fun _ => bodyPost m c) fe g1 fc) $$ Hsig Hpend [HO] Hx He Ho Hc
  · unfold owesAny; iexists W; iexact HO
  iintro HO Hx He Ho Hc Hz Hb
  unfold bodyPost behind scratch Dat.owesAt Pipeline.owesWithin owesAny
  icases HO with ⟨%W', HO⟩
  isplitl [He Hc Hz Hb]
  · isplitl [He Hc]
    · isplitl [He]; · iexact He
      iexact Hc
    isplitl [Hz] <;> iassumption
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Ho

theorem obligation (c : Dev nD) : BodyObligation (dats (F := F) m 0 c) (defs₀ (F := F)) 𝒱₀ () Set.univ := fun t => by
  rw [fin_N0 t, bigSep_W0, bigSep_W0]
  simp only [owns_whole]
  exact body_meets m c

/-! ## What the launch asks besides -/

theorem ownSemFacts : Pipeline.OwnSemFacts cfg0.spec osem := by decide

theorem share_full (c : Dev nD) (w : Fin cfg0.W) : (dats m 0 c).share w = fullShare := by unfold Dat.share; split <;> rfl

theorem begin (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' m c)
      ⊢ |={Set.univ}=> iprop(start m c ∗ emp) := by
  iintro ⟨-, Hlev, Hcr, -, HG⟩
  ihave Hc := (credits (F := F) c) $$ Hcr
  imodintro
  unfold start
  isplitl
  · isplitl [HG]; · iexact HG
    isplitl [Hc] <;> iassumption
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scopedRest0_eq]
  unfold before scratch
  iintro ⟨Hs, -, Hr⟩
  isplitl [Hs] <;> iassumption

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = behind c from rfl, scopedRest0_eq, ← zeros_counters,
    show (unscopedSems0 c : sProp 𝕄) = semVal (barCell c) 0 from by
      unfold unscopedSems0; rw [bigSep_eq_bigSepL_of_eq [SemLoc.reg barS] (by decide) (by decide)]; rfl]
  unfold behind scratch
  iintro ⟨Hr, Hz, Hb⟩
  isplitl [Hb]; · iexact Hb
  isplitl [Hz] <;> iassumption

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- Every device runs to the end; the windows' arrays end as the region leaves them, every counter at zero. -/
theorem run_arrays :
    θ_run defs (onTc (τ := τ) (main (F := F))) (init m ρ) (fun r =>
      (∀ c : Dev nD, ∀ w : Fin cfg0.W, r.2.mem ((cfg0.win w).arr.view.loc (c : Thread nD τ)) = (dats m 0 c).arrAt w cfg0.N)
        ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := obligation m) (hne := block_pos0) (harr := arr_whole0) (hstage := stage_whole0) (hshare := share_full m)
    (hdistinct := winFacts0.arr_inj)
    (O₀ := owed₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (mint m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := begin m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input array is left alone. -/
theorem arr_in (c : Dev nD) : (dats m 0 c).arrAt (0 : Fin 2) cfg0.N = m ((c : Thread nD τ).loc main_arg0) :=
  (dats (F := F) m 0 c).arrAt_in (0 : Fin 2) rfl _

/-- The output array holds the device's result. -/
theorem arr_out (c : Dev nD) : (dats m 0 c).arrAt (1 : Fin 2) cfg0.N = outAt m c :=
  (dats (F := F) m 0 c).arrAt_eq_of_after_last (1 : Fin 2) t0_0 (by decide +kernel) _ fun j => rfl

/-- Every device ends with its result, its argument as it was, and every counter at zero. -/
theorem run_main :
    θ_run defs (onTc (τ := τ) (main (F := F))) (init m ρ) (fun r =>
      (∀ c : Dev nD, r.2.mem ((c : Thread nD τ).loc main_v1) = outAt m c
        ∧ r.2.mem ((c : Thread nD τ).loc main_arg0) = m ((c : Thread nD τ).loc main_arg0))
        ∧ r.2.sem = fun _ => 0) :=
  (θ_run defs _ _).mono (fun r h => ⟨fun c => ⟨(h.1 c (1 : Fin 2)).trans (arr_out m c), (h.1 c (0 : Fin 2)).trans (arr_in m c)⟩, h.2⟩)
    (run_arrays m ρ)

end Cert.Softmax

end
-- ==== Proof.Softmax.lean ====
/-
# The softmax of one row, cut into four blocks

A row of 4096 extended reals lies in four blocks of 1024. Each block has an entry above -∞ and none is +∞ (`Good`), so
every block's largest entry is real. Writing `w x` for the real number `e^x` (zero at -∞), every quantity that either
program forms is a real multiple of sums of these weights, and both results are `w x / Σ w`.
-/
module

public import Idealize.ShloMosaic.PureOps.Ideal
public import Idealize.ShloMosaic.PureOps.Ideal.Laws

@[expose] public section

noncomputable section

namespace Cert.Softmax

open Idealize.ShloMosaic

/-- The word of -∞. -/
theorem word_bot : Ideal.ofBits .f32 0xFF800000#32 = ⊥ := by simp [Ideal.ofBits, Ideal.ieee]
/-- The word of +∞. -/
theorem word_top : Ideal.ofBits .f32 0x7F800000#32 = ⊤ := by simp [Ideal.ofBits, Ideal.ieee]

/-- The largest entry of a finite family (-∞ if the family is empty). -/
def top {n : ℕ} (x : Fin n → EReal) : EReal := Finset.univ.fold max ⊥ x

/-- No entry is +∞ and some entry is not -∞. -/
def Good {n : ℕ} (x : Fin n → EReal) : Prop := (∀ j, x j < ⊤) ∧ ∃ j, ⊥ < x j

/-- The largest entry is finite exactly of such a family; here, that its being finite makes the family so. -/
theorem good_of_top {n : ℕ} (x : Fin n → EReal) (h : max (top x) (-top x) < ⊤) : Good x := by
  obtain ⟨h1, h2⟩ := max_lt_iff.mp h
  refine ⟨fun j => ((Finset.fold_max_lt (b := (⊥ : EReal)) (f := x) (s := Finset.univ) ⊤).mp h1).2 j (Finset.mem_univ j), ?_⟩
  have h3 : ⊥ < top x := by
    rcases eq_or_ne (top x) ⊥ with e | e
    · rw [e, EReal.neg_bot] at h2; exact absurd h2 (lt_irrefl _)
    · exact bot_lt_iff_ne_bot.mpr e
  rcases (Finset.lt_fold_max (b := (⊥ : EReal)) (f := x) (s := Finset.univ) ⊥).mp h3 with e | ⟨j, -, hj⟩
  · exact absurd e (lt_irrefl _)
  · exact ⟨j, hj⟩

/-- The largest entry of such a family is real. -/
theorem Good.top_real {n : ℕ} {x : Fin n → EReal} (h : Good x) : ∃ μ : ℝ, top x = (μ : EReal) := by
  obtain ⟨h1, j, hj⟩ := h
  have a : top x < ⊤ := (Finset.fold_max_lt (b := (⊥ : EReal)) (f := x) (s := Finset.univ) ⊤).mpr ⟨bot_lt_top, fun j _ => h1 j⟩
  have b : ⊥ < top x := (Finset.lt_fold_max (b := (⊥ : EReal)) (f := x) (s := Finset.univ) ⊥).mpr (.inr ⟨j, Finset.mem_univ j, hj⟩)
  exact ⟨(top x).toReal, (EReal.coe_toReal a.ne b.ne').symm⟩

/-- The weight of an entry: `e^x`, zero at -∞. -/
def w (x : EReal) : ℝ := (Ideal.exp x).toReal

theorem w_bot : w ⊥ = 0 := rfl
theorem w_coe (r : ℝ) : w (r : EReal) = Real.exp r := rfl

theorem w_nonneg (x : EReal) : 0 ≤ w x := by
  induction x using EReal.rec with
  | bot => exact le_of_eq w_bot.symm
  | coe r => rw [w_coe]; exact (Real.exp_pos r).le
  | top => exact le_of_eq (by rw [w, Ideal.exp_top, EReal.toReal_top])

theorem w_pos {x : EReal} (h : x < ⊤) (h' : ⊥ < x) : 0 < w x := by
  induction x using EReal.rec with
  | bot => exact absurd h' (lt_irrefl _)
  | coe r => rw [w_coe]; exact Real.exp_pos r
  | top => exact absurd h (lt_irrefl _)

/-- The exponential of a difference with a real number. -/
theorem exp_sub {x : EReal} (h : x < ⊤) (μ : ℝ) : Ideal.exp (x - (μ : EReal)) = ((w x * Real.exp (-μ) : ℝ) : EReal) := by
  induction x using EReal.rec with
  | bot => rw [EReal.bot_sub, Ideal.exp_bot, w_bot, zero_mul, EReal.coe_zero]
  | coe r => rw [← EReal.coe_sub, Ideal.exp_coe, w_coe, ← Real.exp_add, sub_eq_add_neg]
  | top => exact absurd h (lt_irrefl _)

/-- The sum of a family's weights. -/
def total {n : ℕ} (x : Fin n → EReal) : ℝ := ∑ j, w (x j)

theorem Good.total_pos {n : ℕ} {x : Fin n → EReal} (h : Good x) : 0 < total x := by
  obtain ⟨h1, j, hj⟩ := h
  exact Finset.sum_pos' (fun i _ => w_nonneg _) ⟨j, Finset.mem_univ j, w_pos (h1 j) hj⟩

theorem coe_sum {n : ℕ} (f : Fin n → ℝ) : (∑ j, ((f j : ℝ) : EReal)) = ((∑ j, f j : ℝ) : EReal) := by
  induction n with
  | zero => rw [Fin.sum_univ_zero, Fin.sum_univ_zero, EReal.coe_zero]
  | succ n ih => rw [Fin.sum_univ_succ, Fin.sum_univ_succ, ih, EReal.coe_add]

/-- The sum of the exponentials against a real number. -/
theorem Good.sum_exp {n : ℕ} {x : Fin n → EReal} (h : Good x) (μ : ℝ) :
    (∑ j, Ideal.exp (x j - (μ : EReal))) = ((total x * Real.exp (-μ) : ℝ) : EReal) := by
  rw [Finset.sum_congr rfl fun j _ => exp_sub (h.1 j) μ, coe_sum, total, Finset.sum_mul]

/-- A quotient of real numbers. -/
theorem div_real (a : ℝ) {b : ℝ} (hb : b ≠ 0) : Ideal.div (a : EReal) (b : EReal) = ((a / b : ℝ) : EReal) := by
  rw [Ideal.div_coe hb, ← EReal.coe_mul, mul_one_div]

/-! ## The plain softmax -/

/-- The softmax of a row at an entry `z`: its exponential over the sum of all, both against the largest entry. -/
def plain {n : ℕ} (x : Fin n → EReal) (z : EReal) : EReal := Ideal.div (Ideal.exp (z - top x)) (∑ j, Ideal.exp (x j - top x))

theorem Good.plain_eq {n : ℕ} {x : Fin n → EReal} (h : Good x) {z : EReal} (hz : z < ⊤) : plain x z = ((w z / total x : ℝ) : EReal) := by
  obtain ⟨μ, hμ⟩ := h.top_real
  unfold plain
  rw [hμ, exp_sub hz, h.sum_exp, div_real _ (mul_pos h.total_pos (Real.exp_pos _)).ne', mul_div_mul_right _ _ (Real.exp_pos _).ne']

/-! ## The softmax from the statistics of four blocks -/

/-- The sum of a block's exponentials against its own largest entry. -/
def part {n : ℕ} (x : Fin n → EReal) : EReal := ∑ j, Ideal.exp (x j - top x)

/-- The largest of the four blocks' largest entries. -/
def top4 {n : ℕ} (x : Fin 4 → Fin n → EReal) : EReal := max (max (max (top (x 0)) (top (x 1))) (top (x 2))) (top (x 3))

/-- The four blocks' sums, each brought from its own largest entry to the largest of all. -/
def sum4 {n : ℕ} (x : Fin 4 → Fin n → EReal) : EReal :=
  part (x 0) * Ideal.exp (top (x 0) - top4 x) + part (x 1) * Ideal.exp (top (x 1) - top4 x)
    + part (x 2) * Ideal.exp (top (x 2) - top4 x) + part (x 3) * Ideal.exp (top (x 3) - top4 x)

/-- The result at an entry `z` of block 0: its exponential against that block's largest entry, times that block's scale. -/
def fromFour {n : ℕ} (x : Fin 4 → Fin n → EReal) (z : EReal) : EReal :=
  Ideal.exp (z - top (x 0)) * Ideal.div (Ideal.exp (top (x 0) - top4 x)) (sum4 x)

theorem coe_max (a b : ℝ) : max (a : EReal) (b : EReal) = ((max a b : ℝ) : EReal) := (EReal.coe_strictMono.monotone.map_max).symm

/-- The result is the entry's weight over the sum of all four blocks' weights. -/
theorem fromFour_eq {n : ℕ} {x : Fin 4 → Fin n → EReal} (h : ∀ k, Good (x k)) {z : EReal} (hz : z < ⊤) :
    fromFour x z = ((w z / ∑ k, total (x k) : ℝ) : EReal) := by
  choose μ hμ using fun k => (h k).top_real
  obtain ⟨M, hM⟩ : ∃ M : ℝ, top4 x = (M : EReal) := ⟨max (max (max (μ 0) (μ 1)) (μ 2)) (μ 3), by
    unfold top4; rw [hμ, hμ, hμ, hμ, coe_max, coe_max, coe_max]⟩
  have hterm : ∀ k, part (x k) * Ideal.exp (top (x k) - top4 x) = ((total (x k) * Real.exp (-M) : ℝ) : EReal) := fun k => by
    unfold part
    rw [hM, hμ, (h k).sum_exp, exp_sub (EReal.coe_lt_top _), w_coe, ← EReal.coe_mul]
    congr 1
    rw [mul_assoc, ← mul_assoc (Real.exp (-μ k)), ← Real.exp_add, neg_add_cancel, Real.exp_zero, one_mul]
  have hs : sum4 x = (((∑ k, total (x k)) * Real.exp (-M) : ℝ) : EReal) := by
    unfold sum4
    rw [hterm, hterm, hterm, hterm, ← EReal.coe_add, ← EReal.coe_add, ← EReal.coe_add, Fin.sum_univ_four]
    congr 1; ring
  have hp : 0 < ∑ k, total (x k) := Finset.sum_pos (fun k _ => (h k).total_pos) Finset.univ_nonempty
  unfold fromFour
  rw [hs, hM, hμ, exp_sub hz, exp_sub (EReal.coe_lt_top _), w_coe, div_real _ (mul_pos hp (Real.exp_pos _)).ne',
    mul_div_mul_right _ _ (Real.exp_pos _).ne', ← EReal.coe_mul]
  congr 1
  rw [mul_div_assoc', mul_assoc, ← Real.exp_add, neg_add_cancel, Real.exp_zero, mul_one]

/-- Why the rows are asked to be good: of a row that is -∞ throughout the plain softmax is a quotient of zeros, which reads
    as -∞, and the one formed from the blocks is zero. -/
theorem differ_on_bot : plain (fun _ : Fin (4 * 1024) => ⊥) ⊥ = ⊥ ∧ fromFour (fun (_ : Fin 4) (_ : Fin 1024) => (⊥ : EReal)) ⊥ = 0 := by
  refine ⟨?_, ?_⟩
  · unfold plain
    simp only [EReal.bot_sub, Ideal.exp_bot, Finset.sum_const_zero, Ideal.div, if_true, lt_irrefl, if_false]
  · unfold fromFour
    rw [EReal.bot_sub, Ideal.exp_bot, zero_mul]

/-! ## A row and its blocks -/

/-- Block `d` of a row of `4 * n` entries. -/
def blk {n : ℕ} (X : Fin (4 * n) → EReal) (d : Fin 4) (j : Fin n) : EReal := X (finProdFinEquiv (d, j))

theorem good_row {n : ℕ} {X : Fin (4 * n) → EReal} (h : ∀ d, Good (blk X d)) : Good X := by
  refine ⟨fun i => ?_, ?_⟩
  · have := (h (finProdFinEquiv.symm i).1).1 (finProdFinEquiv.symm i).2
    rwa [blk, Prod.mk.eta, Equiv.apply_symm_apply] at this
  · obtain ⟨j, hj⟩ := (h 0).2
    exact ⟨_, hj⟩

theorem total_blocks {n : ℕ} (X : Fin (4 * n) → EReal) : total X = ∑ d, total (blk X d) := by
  unfold total blk
  rw [← Fintype.sum_prod_type', ← Equiv.sum_comp finProdFinEquiv]

/-- The result formed from the four blocks' statistics, taken in any order that names each block once, is the plain
    softmax of the whole row. -/
theorem fromFour_plain {n : ℕ} {X : Fin (4 * n) → EReal} (h : ∀ d, Good (blk X d)) (π : Equiv.Perm (Fin 4)) (j : Fin n) :
    fromFour (fun k => blk X (π k)) (blk X (π 0) j) = plain X (blk X (π 0) j) := by
  have hz : blk X (π 0) j < ⊤ := (h (π 0)).1 j
  rw [fromFour_eq (fun k => h (π k)) hz, (good_row h).plain_eq hz, total_blocks, Equiv.sum_comp π fun d => total (blk X d)]

end Cert.Softmax

end
-- ==== Proof.Values.lean ====
/-
# What the kernel computes, entry by entry

The kernel's named values read over the extended reals: a half's row maxima and row sums, and a half of the result, which
is `fromFour` of the four devices' rows.
-/
module

public import proofs.«01_k».proof.Proof.Run
public import proofs.«01_k».proof.Proof.Softmax
public import Idealize.ShloMosaic.Lib.Pointwise

@[expose] public section

set_option maxRecDepth 16384

noncomputable section

namespace Cert.Softmax

open Cert.KernelIdeal Cert.KernelIdeal.Gen
open Idealize.ShloMosaic

/-- Row `r` of a half. -/
def row (v : S1024x1024.Idx → EReal) (r : Fin 1024) (j : Fin 1024) : EReal := v (ix2 r j)

/-- Row `128 a + l` of a half: the row whose statistics lie at `(a, l)`. -/
abbrev rowAt (a : Fin 8) (l : Fin 128) : Fin 1024 := ⟨a.val * 128 + l.val, by omega⟩

/-- A half's row maxima, as the column the exponentials subtract. -/
theorem pay3_apply (v : Vec Ideal S1024x1024 .f32) (r : Fin 1024) (z : Fin 1) : k0_pay3 (F := Ideal) v (ix2 r z) = top (row v r) := by
  unfold k0_pay3 k0_pay2
  pointwise
  rw [word_bot]
  rfl

/-- A half's exponentials against their row's largest entry. -/
theorem pay4_apply (v : Vec Ideal S1024x1024 .f32) (r : Fin 1024) (j : Fin 1024) :
    k0_pay4 (F := Ideal) v (ix2 r j) = Ideal.exp (row v r j - top (row v r)) := by
  unfold k0_pay4 k0_pay2
  pointwise
  rw [pay3_apply]
  rfl

/-- The stored exponentials are the same numbers. -/
theorem pay5_apply (v : Vec Ideal S1024x1024 .f32) (r : Fin 1024) (j : Fin 1024) :
    k0_pay5 (F := Ideal) v (ix2 r j) = Ideal.exp (row v r j - top (row v r)) := by
  unfold k0_pay5
  pointwise
  exact pay4_apply v r j

/-- The row maxima as they are sent. -/
theorem pay6_apply (v : Vec Ideal S1024x1024 .f32) (y z : Fin 1) (a : Fin 8) (l : Fin 128) :
    k0_pay6 (F := Ideal) v (ix4 y z a l) = top (row v (rowAt a l)) := by
  unfold k0_pay6
  pointwise
  exact pay3_apply v _ _

/-- The row sums as they are sent. -/
theorem pay7_apply (v : Vec Ideal S1024x1024 .f32) (y z : Fin 1) (a : Fin 8) (l : Fin 128) :
    k0_pay7 (F := Ideal) v (ix4 y z a l) = part (row v (rowAt a l)) := by
  unfold k0_pay7
  pointwise
  exact Finset.sum_congr rfl fun j _ => pay4_apply v _ j

theorem rowAt_split (r : Fin 1024) : rowAt ⟨r.val / 128, by omega⟩ ⟨r.val % 128, by omega⟩ = r := Fin.ext (Nat.div_add_mod' r.val 128)

variable (m : (ℓ : Loc nD τ sig) → Buf (Elt Ideal) ℓ)

/-- Row `r` of half `b` of a device's block. -/
abbrev hrow (c : Dev nD) (b : Fin 2) (r : Fin 1024) : Fin 1024 → EReal := row (xhalf m c b) r

/-- An entry of a half of the result: the softmax from the four devices' statistics, nearest device first. -/
theorem outHalf_apply (c : Dev nD) (b : Fin 2) (r j : Fin 1024) :
    outHalf m c b (ix2 r j) = fromFour (fun k => hrow m (home k c) b r) (hrow m (home 0 c) b r j) := by
  have h6 : ∀ d : Dev nD, k0_pay6 (F := Ideal) (xhalf m d b) (ix4 0 0 ⟨r.val / 128, by omega⟩ ⟨r.val % 128, by omega⟩) = top (hrow m d b r) :=
    fun d => by rw [pay6_apply, rowAt_split]
  have h7 : ∀ d : Dev nD, k0_pay7 (F := Ideal) (xhalf m d b) (ix4 0 0 ⟨r.val / 128, by omega⟩ ⟨r.val % 128, by omega⟩) = part (hrow m d b r) :=
    fun d => by rw [pay7_apply, rowAt_split]
  unfold outHalf k0_pay18 k0_pay17 k0_pay16 k0_pay15 k0_pay14
  pointwise
  simp only [h6, h7]
  unfold expHalf fromFour sum4 top4
  rw [pay5_apply, show (s2 : Fin 4) = 2 from rfl, show (s3 : Fin 4) = 3 from rfl]
  simp only [home_zero]

end Cert.Softmax

end
-- ==== Proof.Reference.lean ====
/-
# The reference and the precondition, entry by entry

The reference's result at an entry is the plain softmax of its row; the precondition says that every row of every
device's block has a finite largest entry.
-/
module

public import proofs.«01_k».proof.Proof.Softmax
public import proofs.«01_k».proof.Proof.Gen.ReferenceIdeal.Run
public import proofs.«01_k».proof.Pre_row_maxima_finite_KernelIdeal
public import Idealize.ShloMosaic.Lib.Pointwise
public import Idealize.ShloMosaic.Lib.IdealHost

@[expose] public section

set_option maxRecDepth 16384

noncomputable section

namespace Cert.Softmax

open Idealize.ShloMosaic

section Ref
open Cert.ReferenceIdeal Cert.ReferenceIdeal.Gen

/-- Row `r` of a whole array. -/
def wrow (X : S2048x4096.Idx → EReal) (r : Fin 2048) (i : Fin (4 * 1024)) : EReal := X (ix2 r (i : Fin 4096))

/-- The reference's result as a function of its argument. -/
def refOut (X : FVec Ideal S2048x4096 .f32) : FVec Ideal S2048x4096 .bf16 :=
  let e := Host.exp (subf X (broadcastInDim S2048x4096 ![0, 1] bcast_S2048x1_S2048x4096_0_1 (broadcastInDim S2048x1 ![0] bcast_S2048_S2048x1_0
    (Host.reduce FloatOps.maximumf X (constant S_ .f32 0xFF800000#32) reducesTo_S2048x4096_S2048_d1 h_S_))))
  truncf .bf16 (Host.divf e (broadcastInDim S2048x4096 ![0, 1] bcast_S2048x1_S2048x4096_0_1 (broadcastInDim S2048x1 ![0] bcast_S2048_S2048x1_0
    (Host.reduceAdd e (constant S_ .f32 0x00000000#32) reducesTo_S2048x4096_S2048_d1 h_S_)))) bitsLt_bf16_f32

theorem refOut_apply (X : FVec Ideal S2048x4096 .f32) (r : Fin 2048) (j : Fin 4096) :
    refOut X (ix2 r j) = plain (wrow X r) (X (ix2 r j)) := by
  unfold refOut
  pointwise
  rw [word_bot]
  rfl

end Ref

/-- A comparison whose bit is one holds. -/
theorem lt_of_bit {x y : EReal} (h : BitVec.ofBool (decide (x < y)) = 1#1) : x < y := by
  by_contra hn
  rw [decide_eq_false hn] at h
  exact absurd h (by decide)

section Pre
open Cert.Pre_row_maxima_finite_KernelIdeal Cert.Pre_row_maxima_finite_KernelIdeal.Facts

variable [Cert.Pre_row_maxima_finite_KernelIdeal.Facts]

/-- A block's row maxima. -/
def maxima (v : FVec Ideal S2048x1024 .f32) : FVec Ideal S2048 .f32 :=
  Host.reduce FloatOps.maximumf v (constant S_ .f32 0xFF800000#32) reducesTo_S2048x1024_S2048_d1 h_S_

theorem maxima_apply (v : FVec Ideal S2048x1024 .f32) (r : Fin 2048) : maxima v (ix1 r) = top fun j : Fin 1024 => v (ix2 r j) := by
  unfold maxima
  pointwise
  rw [word_bot, ← top]

/-- Whether each of 2048 numbers is finite. -/
def bounded (R : FVec Ideal S2048 .f32) : IVec S2048 1 :=
  cmpf .olt (Host.absf R) (broadcastInDim S2048 ![] bcast_S_S2048 (constant S_ .f32 0x7F800000#32))

theorem bounded_apply (R : FVec Ideal S2048 .f32) (r : Fin 2048) :
    bounded R (ix1 r) = BitVec.ofBool (decide (max (R (ix1 r)) (-R (ix1 r)) < ⊤)) := by
  unfold bounded
  pointwise
  rw [word_top, Ideal.absf_def]

/-- The precondition at a row: whether its largest entry is finite. -/
theorem pre_apply (v : FVec Ideal S2048x1024 .f32) (r : Fin 2048) :
    fn (F := Ideal) v (ix1 r) = BitVec.ofBool (decide (max (top fun j : Fin 1024 => v (ix2 r j)) (-top fun j : Fin 1024 => v (ix2 r j)) < ⊤)) := by
  rw [show fn (F := Ideal) v = bounded (maxima v) from rfl, bounded_apply, maxima_apply]

/-- What the precondition says of a block's row: no entry is +∞ and some entry is not -∞. -/
theorem good_of_pre (v : FVec Ideal S2048x1024 .f32) (h : fn (F := Ideal) v = fun _ => 1#1) (r : Fin 2048) :
    Good fun j : Fin 1024 => v (ix2 r j) :=
  good_of_top _ (lt_of_bit ((pre_apply v r).symm.trans (congrFun h (ix1 r))))

end Pre

end Cert.Softmax

end
-- ==== Proof.Algebra.lean ====
/-
# The kernel's result is the reference's

From a memory in which each device holds its block of columns of one array, and under the precondition, each device's
result is its block of columns of the reference's.
-/
module

public import proofs.«01_k».proof.Proof.Values
public import proofs.«01_k».proof.Proof.Reference
public import Idealize.ShloMosaic.Lib.Layout

@[expose] public section

set_option maxRecDepth 16384

noncomputable section

namespace Cert.Softmax

open Cert.KernelIdeal Cert.KernelIdeal.Gen
open Idealize.ShloMosaic Idealize.ShloMosaic.TcCoe

/-- Row `r` of half `b`, as a row of the block. -/
abbrev rowOf (b : Fin 2) (r : Fin 1024) : Fin 2048 := ⟨1024 * b.val + r.val, by omega⟩

/-- The staged block is the device's argument. -/
theorem xstg_eq {F : FTy → Type} [FloatOps F] (m : (ℓ : Loc nD τ sig) → Buf (Elt F) ℓ) (c : Dev nD) :
    xstg m c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _

/-- Where a half's entry lies in the block. -/
theorem emb_half (b : Fin 2) (r j : Fin 1024) : (halfR b).emb (ix2 r j) = ix2 (rowOf b r) j :=
  (eq_ix2 _).trans (congr (congrArg ix2 (Fin.ext (by show 1024 * b.val + 1 * r.val = 1024 * b.val + r.val; omega))) (Fin.ext (by show 0 + 1 * j.val = j.val; omega)))

variable (m : (ℓ : Loc nD τ sig) → Buf (Elt Ideal) ℓ)

/-- A half's row is a row of the device's argument. -/
theorem hrow_eq (c : Dev nD) (b : Fin 2) (r j : Fin 1024) :
    hrow m c b r j = (m ((c : Thread nD τ).loc main_arg0) : S2048x1024.Idx → EReal) (ix2 (rowOf b r) j) := by
  show xstg m c ((halfR b).emb (ix2 r j)) = _
  rw [xstg_eq]
  exact congrArg (m ((c : Thread nD τ).loc main_arg0)) (emb_half b r j)

/-- The block of columns `c` of a whole array, at an entry: entry `j` of block `c` of the row. -/
theorem block_entry (X : (⟨2, ![2048, 4096]⟩ : Shape).Idx → EReal) (c : Fin 4) (R : Fin 2048) (j : Fin 1024) :
    Layout.block ⟨2, ![2048, 1024]⟩ ⟨2, ![2048, 4096]⟩ 1 4 c X (by decide) (ix2 R j) = blk (wrow X R) c j := by
  show X _ = X _
  refine congrArg X ?_
  exact (eq_ix2 _).trans (congrArg (ix2 R) (Fin.ext (by show c.val * 1024 + j.val = j.val + 1024 * c.val; omega)))

/-- The four devices in the order of their distance, as a permutation. -/
def around (c : Dev nD) : Equiv.Perm (Fin 4) :=
  ⟨fun k => home k c, fun d => ⟨(c.val + (4 - d.val)) % 4, Nat.mod_lt _ (by decide)⟩, by revert c; decide, by revert c; decide⟩

theorem out_block (X : (⟨2, ![2048, 4096]⟩ : Shape).Idx → EReal)
    (hX : ∀ c : Dev nD, m ((c : Thread nD τ).loc main_arg0) = Layout.block ⟨2, ![2048, 1024]⟩ ⟨2, ![2048, 4096]⟩ 1 4 c X)
    (hg : ∀ (c : Dev nD) (R : Fin 2048), Good fun j : Fin 1024 => (m ((c : Thread nD τ).loc main_arg0) : S2048x1024.Idx → EReal) (ix2 R j))
    (c : Dev nD) :
    outAt m c = Layout.block ⟨2, ![2048, 1024]⟩ ⟨2, ![2048, 4096]⟩ 1 4 c (refOut X) := by
  have hrow : ∀ (d : Dev nD) (b : Fin 2) (r : Fin 1024), hrow m d b r = blk (wrow X (rowOf b r)) d := fun d b r => by
    funext j
    rw [hrow_eq, hX]
    exact block_entry X d (rowOf b r) j
  have hgood : ∀ (R : Fin 2048) (d : Dev nD), Good (blk (wrow X R) d) := fun R d => by
    have := hg d R
    rw [hX] at this
    exact (funext fun j => block_entry X d R j) ▸ this
  have key : ∀ (b : Fin 2) (r j : Fin 1024), outHalf m c b (ix2 r j) = Layout.block ⟨2, ![2048, 1024]⟩ ⟨2, ![2048, 4096]⟩ 1 4 c (refOut X) (by decide) ((halfR b).emb (ix2 r j)) := fun b r j => by
    rw [outHalf_apply]
    simp only [hrow]
    refine (fromFour_plain (hgood (rowOf b r)) (around c) j).trans ?_
    rw [show (around c) 0 = c from home_zero c, emb_half, block_entry]
    exact (refOut_apply X (rowOf b r) _).symm
  refine (eq_twoHalves _ _ fun b x => ?_).symm
  idx_vars x
  refine (key b x0 x1).symm.trans ?_
  fin_cases b <;> rfl

end Cert.Softmax

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Algebra
public import Idealize.ShloMosaic.Lib.Quiescent
public import Idealize.ShloMosaic.Adequacy
public import Idealize.ShloMosaic.Init

@[expose] public section

noncomputable section

namespace Cert.Proof

open Idealize.ShloMosaic Idealize.SL.Sem

/-- The kernel runs at any float values, its argument unchanged and every counter back at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) :=
  (θ_run Cert.KernelIdeal.defs _ _).mono (fun _ h => ⟨fun c => (h.1 c).2, h.2⟩) (Cert.Softmax.run_main m ρ)

/-- The two printings of the kernel hold the same table of bodies: its one entry is the same body in both. -/
theorem bodies_eq : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | 0, (t, s) => rfl
  | ⟨_ + 1, h⟩, _ => exact absurd h (Nat.not_lt.2 (Nat.le_add_left _ _))

theorem defs_eq : Cert.Kernel.defs (F := Bits) = Cert.KernelIdeal.defs (F := Bits) := congrArg (Pipeline.defs Cert.Kernel.pcfgs) bodies_eq

/-- So it does at the machine's floats. -/
theorem frame_kernel : Cert.quiescent_Kernel (hKernel := Cert.Kernel.Gen.facts) := by
  intro m ρ _
  rw [defs_eq]
  exact frame_any (F := Bits) m ρ

/-- And over the extended reals. -/
theorem frame_ideal : Cert.quiescent_KernelIdeal (hKernelIdeal := Cert.KernelIdeal.Gen.facts) := fun m ρ _ => frame_any (F := Ideal) m ρ

/-- The reference runs over the extended reals, its argument unchanged; it has no counters. -/
theorem frame_reference : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

section
variable [Cert.Pre_row_maxima_finite_KernelIdeal.Facts]

/-- Under the precondition the kernel's result on each device is its block of columns of the reference's. -/
theorem equal : Cert.algebraic_KernelIdeal_ReferenceIdeal_pre_row_maxima_finite_KernelIdeal
    (hKernelIdeal := Cert.KernelIdeal.Gen.facts) (hReferenceIdeal := Cert.ReferenceIdeal.Gen.facts) := by
  intro m ρ m' ρ' hpre hagree
  refine ⟨Cert.Softmax.refOut (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono (fun _ h c => ⟨(h.1 c).1.trans ?_, (h.1 c).2⟩) (Cert.Softmax.run_main (F := Ideal) m ρ)
    exact Cert.Softmax.out_block m _ hagree (fun d R => Cert.Softmax.good_of_pre _ (hpre d) R) c
  · exact (θ_run Cert.ReferenceIdeal.defs _ _).mono (fun _ h => h 0) (Cert.ReferenceIdeal.Value.run (F := Ideal) m' ρ')

end

/-- The side conditions of the precondition, at a device's block and at a whole array. -/
theorem pre_facts : Cert.Pre_row_maxima_finite_KernelIdeal.Facts :=
  { reducesTo_S2048x1024_S2048_d1 := by decide, h_S_ := by decide, bcast_S_S2048 := by decide }
theorem pre_facts_whole : Cert.Pre_row_maxima_finite_ReferenceIdeal.Facts :=
  { reducesTo_S2048x4096_S2048_d1 := by decide, h_S_ := by decide, bcast_S_S2048 := by decide }

/-- Every claim. -/
theorem claim : Cert.Claim :=
  ⟨Cert.Kernel.Gen.facts, Cert.KernelIdeal.Gen.facts, Cert.ReferenceIdeal.Gen.facts, pre_facts, pre_facts_whole,
    frame_kernel, frame_ideal, fun m ρ _ => frame_ideal m ρ trivial, frame_reference, fun m ρ _ => frame_reference m ρ trivial, trivial,
    @equal pre_facts⟩

end Cert.Proof

end
